-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S64x1024x96 : Shape := ⟨3, ![64, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S_ : Shape := ⟨0, ![]⟩

class Facts : Prop where
  bcast_S_S64x1024x96 : S_.BroadcastsInDim S64x1024x96 (![] : Fin 0 → Fin S64x1024x96.rank)
  reducesTo_S64x1024x96_S_d0_1_2 : S64x1024x96.ReducesTo [0, 1, 2] S_
  h_S_ : 0 < S_.numel
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_

variable [Facts]

def fn_part1 {F : FTy → Type} [FloatOps F] (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  main_v18

def fn {F : FTy → Type} [FloatOps F] (main_arg0 : FVec F S64x1024x96 .f32) (main_arg1 : FVec F S96x32 .f32) (main_arg2 : FVec F S32 .f32) (main_arg3 : FVec F S512x32 .f32) (main_arg4 : FVec F S32x96 .f32) (main_arg5 : FVec F S96 .f32) : IVec S_ 1 :=
  let main_v0 : FVec F S64x1024x96 .f32 := Host.absf main_arg0
  let main_cst : FVec F S_ .f32 := constant S_ .f32 0x7F800000#32
  let main_v1 : FVec F S64x1024x96 .f32 := broadcastInDim S64x1024x96 ![] bcast_S_S64x1024x96 main_cst
  let main_v2 : IVec S64x1024x96 1 := cmpf .olt main_v0 main_v1
  let main_c : IVec S_ 1 := constantI S_ 1 1#1
  let main_v3 : IVec S_ 1 := (fun x v => Host.reduce IntOp.andi x v reducesTo_S64x1024x96_S_d0_1_2 h_S_) main_v2 main_c
  let main_v4 : FVec F S96x32 .f32 := Host.absf main_arg1
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_v13 main_v16
-- ==== KernelIdeal.lean ====
abbrev S64x1024x96 : Shape := ⟨3, ![64, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S1x32 : Shape := ⟨2, ![1, 32]⟩
abbrev S1x96 : Shape := ⟨2, ![1, 96]⟩
abbrev S4x1x2048 : Shape := ⟨3, ![4, 1, 2048]⟩
abbrev S1x1 : Shape := ⟨2, ![1, 1]⟩
abbrev S512x128 : Shape := ⟨2, ![512, 128]⟩
abbrev S2x1024x96 : Shape := ⟨3, ![2, 1024, 96]⟩
abbrev S1x1x2048 : Shape := ⟨3, ![1, 1, 2048]⟩
abbrev S512x96 : Shape := ⟨2, ![512, 96]⟩
abbrev S2048x96 : Shape := ⟨2, ![2048, 96]⟩
abbrev S2048x32 : Shape := ⟨2, ![2048, 32]⟩
abbrev S32x2048 : Shape := ⟨2, ![32, 2048]⟩
abbrev S512 : Shape := ⟨1, ![512]⟩
abbrev S512x2048 : Shape := ⟨2, ![512, 2048]⟩
abbrev S512x1 : Shape := ⟨2, ![512, 1]⟩
abbrev S64x8x2048 : Shape := ⟨3, ![64, 8, 2048]⟩
abbrev S1x8x2048 : Shape := ⟨3, ![1, 8, 2048]⟩
abbrev S8x2048 : Shape := ⟨2, ![8, 2048]⟩
abbrev S2048 : Shape := ⟨1, ![2048]⟩
abbrev S1x2048 : Shape := ⟨2, ![1, 2048]⟩
abbrev S1x2048x32 : Shape := ⟨3, ![1, 2048, 32]⟩
abbrev S1 : Shape := ⟨1, ![1]⟩
abbrev S1x1x1 : Shape := ⟨3, ![1, 1, 1]⟩
abbrev S32x2x128 : Shape := ⟨3, ![32, 2, 128]⟩
abbrev S8x1024x128 : Shape := ⟨3, ![8, 1024, 128]⟩
abbrev S2x128 : Shape := ⟨2, ![2, 128]⟩
abbrev S3x128x128 : Shape := ⟨3, ![3, 128, 128]⟩
abbrev S_ : Shape := ⟨0, ![]⟩
abbrev S1x2x128 : Shape := ⟨3, ![1, 2, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S28x1x2048 : Shape := ⟨3, ![28, 1, 2048]⟩
abbrev S2048x512 : Shape := ⟨2, ![2048, 512]⟩
abbrev S2048x1 : Shape := ⟨2, ![2048, 1]⟩
abbrev S4x1024x128 : Shape := ⟨3, ![4, 1024, 128]⟩
abbrev S4x1024x96 : Shape := ⟨3, ![4, 1024, 96]⟩
abbrev S32x1x2048 : Shape := ⟨3, ![32, 1, 2048]⟩
abbrev S64x1024 : Shape := ⟨2, ![64, 1024]⟩

abbrev nBuf : Table → Nat
  | .hbm => 25
  | .local .tc .vmem => 28
  | .local .scVector .vmem => 2
  | _ => 0

abbrev bufTy : (tb : Table) → Fin (nBuf tb) → BufTy
  | .hbm, ⟨0, _⟩ => ⟨S64x1024x96, .f32⟩
  | .hbm, ⟨1, _⟩ => ⟨S96x32, .f32⟩
  | .hbm, ⟨2, _⟩ => ⟨S32, .f32⟩
  | .hbm, ⟨3, _⟩ => ⟨S512x32, .f32⟩
  | .hbm, ⟨4, _⟩ => ⟨S32x96, .f32⟩
  | .hbm, ⟨5, _⟩ => ⟨S96, .f32⟩
  | .hbm, ⟨6, _⟩ => ⟨S1x32, .f32⟩
  | .hbm, ⟨7, _⟩ => ⟨S1x96, .f32⟩
  | .hbm, ⟨8, _⟩ => ⟨S4x1x2048, .i32⟩
  | .hbm, ⟨9, _⟩ => ⟨S1x1, .f32⟩
  | .hbm, ⟨10, _⟩ => ⟨S512x128, .f32⟩
  | .hbm, ⟨11, _⟩ => ⟨S32x2x128, .i32⟩
  | .hbm, ⟨12, _⟩ => ⟨S8x1024x128, .f32⟩
  | .hbm, ⟨13, _⟩ => ⟨S28x1x2048, .i32⟩
  | .hbm, ⟨14, _⟩ => ⟨S1x1, .f32⟩
  | .hbm, ⟨15, _⟩ => ⟨S64x1024x96, .f32⟩
  | .hbm, ⟨16, _⟩ => ⟨S64x1024x96, .f32⟩
  | .hbm, ⟨17, _⟩ => ⟨S32x1x2048, .i32⟩
  | .hbm, ⟨18, _⟩ => ⟨S64x1024, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local .tc .vmem, ⟨0, _⟩ => ⟨S2x1024x96, .f32⟩
  | .local .tc .vmem, ⟨1, _⟩ => ⟨S2x1024x96, .f32⟩
  | .local .tc .vmem, ⟨2, _⟩ => ⟨S96x32, .f32⟩
  | .local .tc .vmem, ⟨3, _⟩ => ⟨S1x32, .f32⟩
  | .local .tc .vmem, ⟨4, _⟩ => ⟨S512x32, .f32⟩
  | .local .tc .vmem, ⟨5, _⟩ => ⟨S32x96, .f32⟩
  | .local .tc .vmem, ⟨6, _⟩ => ⟨S1x96, .f32⟩
  | .local .tc .vmem, ⟨7, _⟩ => ⟨S1x1x2048, .i32⟩
  | .local .tc .vmem, ⟨8, _⟩ => ⟨S1x1x2048, .i32⟩
  | .local .tc .vmem, ⟨9, _⟩ => ⟨S1x1, .f32⟩
  | .local .tc .vmem, ⟨10, _⟩ => ⟨S512x128, .f32⟩
  | .local .tc .vmem, ⟨11, _⟩ => ⟨S2x1024x96, .f32⟩
  | .local .tc .vmem, ⟨12, _⟩ => ⟨S2x1024x96, .f32⟩
  | .local .tc .vmem, ⟨13, _⟩ => ⟨S96x32, .f32⟩
  | .local .tc .vmem, ⟨14, _⟩ => ⟨S1x32, .f32⟩
  | .local .tc .vmem, ⟨15, _⟩ => ⟨S512x32, .f32⟩
  | .local .tc .vmem, ⟨16, _⟩ => ⟨S32x96, .f32⟩
  | .local .tc .vmem, ⟨17, _⟩ => ⟨S1x96, .f32⟩
  | .local .tc .vmem, ⟨18, _⟩ => ⟨S1x1x2048, .i32⟩
  | .local .tc .vmem, ⟨19, _⟩ => ⟨S1x1x2048, .i32⟩
  | .local .tc .vmem, ⟨20, _⟩ => ⟨S1x1, .f32⟩
  | .local .tc .vmem, ⟨21, _⟩ => ⟨S2x1024x96, .f32⟩
  | .local .tc .vmem, ⟨22, _⟩ => ⟨S2x1024x96, .f32⟩
  | .local .tc .vmem, ⟨23, _⟩ => ⟨S512x96, .f32⟩
  | .local .tc .vmem, ⟨24, _⟩ => ⟨S4x1024x128, .f32⟩
  | .local .tc .vmem, ⟨25, _⟩ => ⟨S4x1024x128, .f32⟩
  | .local .tc .vmem, ⟨26, _⟩ => ⟨S4x1024x96, .f32⟩
  | .local .tc .vmem, ⟨27, _⟩ => ⟨S4x1024x96, .f32⟩
  | .local .scVector .vmem, ⟨0, _⟩ => ⟨S2x128, .i32⟩
  | .local .scVector .vmem, ⟨1, _⟩ => ⟨S3x128x128, .f32⟩
  | _, _ => ⟨S64x1024x96, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v2_2_scv : Ref sig .scVector := ⟨.hbm, 10, rfl⟩
abbrev main_v3_scv : Ref sig .scVector := ⟨.hbm, 11, rfl⟩
abbrev main_v4_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg8_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def cc0_transform_0 (i : grid0.Coords) : Fin 3 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_80_r0 : BitVec 32 := 0#32
  let c0_i32_81_r0 : BitVec 32 := 0#32
  ![v1.toNat, 0, 0]
def k1_off2 (i : grid1.Coords) (c0_i32_19 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v18 : BitVec 32 := Scalar.addi v2 c0_i32_19
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c1024_i32 : BitVec 32 := 1024#32
  let c0_i32_22 : BitVec 32 := 0#32
  let v25 : BitVec 1 := Scalar.cmpi .sgt c1024_i32 c0_i32_22
  let v26 : BitVec 32 := Scalar.extui v25
  let c0_i32_23 : BitVec 32 := 0#32
  let v27 : BitVec 1 := Scalar.cmpi .slt c1024_i32 c0_i32_23
  let v28 : BitVec 32 := Scalar.extui v27
  let v29 : BitVec 32 := Scalar.subi v26 v28
  let v30 : BitVec 1 := Scalar.cmpi .ne v24 v29
  let v31 : BitVec 32 := Scalar.remsi v18 c1024_i32
  let c0_i32_24 : BitVec 32 := 0#32
  let v32 : BitVec 1 := Scalar.cmpi .ne v31 c0_i32_24
  let v33 : BitVec 1 := Scalar.andi v30 v32
  let v19 : BitVec 32 := Scalar.divsi v18 c1024_i32
  let c1_i32_25 : BitVec 32 := 1#32
  let v34 : BitVec 32 := Scalar.subi v19 c1_i32_25
  let v35 : BitVec 32 := Scalar.select v33 v34 v19
  let c1024_i32_26 : BitVec 32 := 1024#32
  let c0_i32_27 : BitVec 32 := 0#32
  let v36 : BitVec 1 := Scalar.cmpi .eq c1024_i32_26 c0_i32_27
  let c1_i32_28 : BitVec 32 := 1#32
  let v37 : BitVec 32 := Scalar.select v36 c1_i32_28 c1024_i32_26
  let v38 : BitVec 32 := Scalar.remsi v18 v37
  let c0_i32_30 : BitVec 32 := 0#32
  let v40 : BitVec 1 := Scalar.cmpi .slt v38 c0_i32_30
  let c0_i32_31 : BitVec 32 := 0#32
  let v41 : BitVec 1 := Scalar.cmpi .slt v37 c0_i32_31
  let v42 : BitVec 1 := Scalar.xori v40 v41
  let c0_i32_29 : BitVec 32 := 0#32
  let v39 : BitVec 1 := Scalar.cmpi .ne v38 c0_i32_29
  let v43 : BitVec 1 := Scalar.andi v42 v39
  let v44 : BitVec 32 := Scalar.addi v38 v37
  let v45 : BitVec 32 := Scalar.select v43 v44 v38
  let c0_i32_35 : BitVec 32 := 0#32
  ![v35.toNat, v45.toNat, 0]
abbrev grid2 : Pipeline.Grid := ⟨1, ![28], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x1024x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x1x2048 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2x1024x96 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S4x1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x1024x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1024x96 : Shape := ⟨3, ![64, 1024, 96]⟩
abbrev S96x32 : Shape := ⟨2, ![96, 32]⟩
abbrev S32 : Shape := ⟨1, ![32]⟩
abbrev S512x32 : Shape := ⟨2, ![512, 32]⟩
abbrev S32x96 : Shape := ⟨2, ![32, 96]⟩
abbrev S96 : Shape := ⟨1, ![96]⟩
abbrev S_ : Shape := ⟨0, ![]⟩
abbrev S64x1024x32 : Shape := ⟨3, ![64, 1024, 32]⟩
abbrev S1x1x32 : Shape := ⟨3, ![1, 1, 32]⟩
abbrev S65536x32 : Shape := ⟨2, ![65536, 32]⟩
abbrev S65536 : Shape := ⟨1, ![65536]⟩
abbrev S65536x1 : Shape := ⟨2, ![65536, 1]⟩
abbrev S32x512 : Shape := ⟨2, ![32, 512]⟩
abbrev S65536x512 : Shape := ⟨2, ![65536, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x1x96 : Shape := ⟨3, ![1, 1, 96]⟩
abbrev S64x1024 : Shape := ⟨2, ![64, 1024]⟩

abbrev nBuf : Space → Nat
  | .hbm => 84
  | .vmem => 0
  | .smem => 0
  | _ => 0

abbrev bufTy : (tb : Table) → Fin (tcTables nBuf tb) → BufTy
  | .hbm, ⟨0, _⟩ => ⟨S64x1024x96, .f32⟩
  | .hbm, ⟨1, _⟩ => ⟨S96x32, .f32⟩
  | .hbm, ⟨2, _⟩ => ⟨S32, .f32⟩
  | .hbm, ⟨3, _⟩ => ⟨S512x32, .f32⟩
  | .hbm, ⟨4, _⟩ => ⟨S32x96, .f32⟩
  | .hbm, ⟨5, _⟩ => ⟨S96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x1024x32, .f32⟩
  | .hbm, ⟨10, _⟩ => ⟨S1x1x32, .f32⟩
  | .hbm, ⟨11, _⟩ => ⟨S64x1024x32, .f32⟩
  | .hbm, ⟨12, _⟩ => ⟨S64x1024x32, .f32⟩
  | .hbm, ⟨13, _⟩ => ⟨S65536x32, .f32⟩
  | .hbm, ⟨14, _⟩ => ⟨S65536x32, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x32, .f32⟩
  | .hbm, ⟨20, _⟩ => ⟨S65536x32, .f32⟩
  | .hbm, ⟨21, _⟩ => ⟨S32x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S512x32, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S65536x512, .i32⟩
  | .hbm, ⟨32, _⟩ => ⟨S_, .f32⟩
  | .hbm, ⟨33, _⟩ => ⟨S_, .i32⟩
  | .hbm, ⟨34, _⟩ => ⟨S65536, .f32⟩
  | .hbm, ⟨35, _⟩ => ⟨S65536, .i32⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S65536x1, .i32⟩
  | .hbm, ⟨44, _⟩ => ⟨S1, .i32⟩
  | .hbm, ⟨45, _⟩ => ⟨S_, .i32⟩
  | .hbm, ⟨46, _⟩ => ⟨S65536x1, .i32⟩
  | .hbm, ⟨47, _⟩ => ⟨S65536x1, .i1⟩
  | .hbm, ⟨48, _⟩ => ⟨S1x1, .i32⟩
  | .hbm, ⟨49, _⟩ => ⟨S65536x1, .i32⟩
  | .hbm, ⟨50, _⟩ => ⟨S65536x1, .i1⟩
  | .hbm, ⟨51, _⟩ => ⟨S65536x1, .i1⟩
  | .hbm, ⟨52, _⟩ => ⟨S_, .i1⟩
  | .hbm, ⟨53, _⟩ => ⟨S65536, .i1⟩
  | .hbm, ⟨54, _⟩ => ⟨S65536x32, .f32⟩
  | .hbm, ⟨55, _⟩ => ⟨S65536x32, .i1⟩
  | .hbm, ⟨56, _⟩ => ⟨S_, .f32⟩
  | .hbm, ⟨57, _⟩ => ⟨S65536x32, .f32⟩
  | .hbm, ⟨58, _⟩ => ⟨S65536x32, .f32⟩
  | .hbm, ⟨59, _⟩ => ⟨S64x1024x32, .f32⟩
  | .hbm, ⟨60, _⟩ => ⟨S64x1024x32, .f32⟩
  | .hbm, ⟨61, _⟩ => ⟨S64x1024x32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64x1024x32, .f32⟩
  | .hbm, ⟨70, _⟩ => ⟨S64x1024x32, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S64x1024x32, .f32⟩
  | .hbm, ⟨78, _⟩ => ⟨S64x1024x32, .f32⟩
  | .hbm, ⟨79, _⟩ => ⟨S64x1024x96, .f32⟩
  | .hbm, ⟨80, _⟩ => ⟨S1x1x96, .f32⟩
  | .hbm, ⟨81, _⟩ => ⟨S64x1024x96, .f32⟩
  | .hbm, ⟨82, _⟩ => ⟨S64x1024x96, .f32⟩
  | .hbm, ⟨83, _⟩ => ⟨S64x1024, .i32⟩
  | _, _ => ⟨S64x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v20 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_4 : Ref sig .tc := ⟨.hbm, 62, rfl⟩
abbrev main_v25 : Ref sig .tc := ⟨.hbm, 63, rfl⟩
abbrev main_cst_5 : Ref sig .tc := ⟨.hbm, 64, rfl⟩
abbrev main_v26 : Ref sig .tc := ⟨.hbm, 65, rfl⟩
abbrev main_v27 : Ref sig .tc := ⟨.hbm, 66, rfl⟩
abbrev main_cst_6 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_7 : Ref sig .tc := ⟨.hbm, 71, rfl⟩
abbrev main_v31 : Ref sig .tc := ⟨.hbm, 72, rfl⟩
abbrev main_cst_8 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.Common.lean ====
/-
  What every part of the kernel's proof shares: the program as the SparseCore launch theorem sees it, the resource
  algebra (the launch's handshakes, the three TensorCore pipelines' rounds, the transfers' counters), and the host's
  buffers held at a valuation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionsLoop
public import Idealize.ShloMosaic.Lib.WholeRead
public import Idealize.ShloMosaic.Lib.VecWindow
public import Idealize.ShloMosaic.Lib.Tactic

@[expose] public section

noncomputable section

namespace Cert.Vq

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## The program as the launch theorem sees it -/

abbrev ΛP [FloatOps F] : Labels := Pipeline.Sig Λ₀ (Fin 3) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

/-- The handshakes' part of the algebra. -/
abbrev EH : Emb UH (MT nD τ sig (HIx 1) (Elt F) ℕ UU ℕ) := embL
/-- The pipelines' part. -/
abbrev EP : Emb UP (MT nD τ sig (HIx 1) (Elt F) ℕ UU ℕ) := (Emb.inl : Emb UP (UP × Counters)).trans embR

/-- The admissible arguments of the three pipelines: there is nothing to choose. -/
abbrev adm [FloatOps F] : (p : Fin 3) → (pcfgs (F := F) p).Adm := fun p => (cfgs p).toPCfg_adm

/-! ## Proof data every region shares -/

/-- A valuation of the TensorCores' buffers. -/
abbrev Vals (F : FTy → Type) : Type := (c : Dev nD) → (b : Ref sig .tc) → Buf (Elt F) ((c : Thread nD τ).loc b)

/-- A proof data for a pipeline that is not being run. -/
def junkDat [FloatOps F] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The waits a TensorCore has recorded all lie at or below level `b`, and it owes `O`. -/
def owedSt [FloatOps F] (O : Dev nD → CellTallies nD τ sig (HIx 1)) (b : ℕ) (c : Dev nD) : sProp 𝕄 :=
  iprop(∃ W, ⌜(K (F := F)).WBelow (c : Thread nD τ) W b⌝ ∗ owes (c : Thread nD τ) (O c) W)

/-- The pairs at or below level `b`. -/
def recd [FloatOps F] (b : ℕ) (c : Dev nD) : Set (SemLoc sig × HIx 1) := {p | (K (F := F)).lev ((c : Thread nD τ), p.1) p.2 ≤ b}

/-- A region's `owes` from the thread's, and back: a staging cell's wait is recorded at the level-zero index. -/
theorem owedSt_owesAt [FloatOps F] {cfg : Cfg sig Λ₀} (O : Dev nD → CellTallies nD τ sig (HIx 1)) (b : ℕ) (c : Dev nD)
    (dat : Dat τ (Elt F) (HIx 1) ℕ UU ℕ cfg c) (t : Fin (cfg.N + 1)) (hO : dat.owed t = O c) (hr : dat.recorded t = recd (F := F) b c) :
    owedSt (F := F) O b c ⊢ dat.owesAt none t := by
  unfold owedSt Pipeline.Dat.owesAt Pipeline.owesWithin
  rw [hO]
  iintro ⟨%W, %hW, HO⟩
  iexists W; isplitr
  · ipureintro; intro p hp; left; rw [hr]; exact hW p hp
  iexact HO

theorem owesAt_owedSt [FloatOps F] {cfg : Cfg sig Λ₀} (O : Dev nD → CellTallies nD τ sig (HIx 1)) (b : ℕ) (c : Dev nD)
    (dat : Dat τ (Elt F) (HIx 1) ℕ UU ℕ cfg c) (t : Fin (cfg.N + 1)) (hO : dat.owed t = O c) (hr : dat.recorded t = recd (F := F) b c) :
    dat.owesAt none t ⊢ owedSt (F := F) O b c := by
  unfold owedSt Pipeline.Dat.owesAt Pipeline.owesWithin
  rw [hO]
  iintro ⟨%W, %hW, HO⟩
  iexists W; isplitr
  · ipureintro; intro p hp
    rcases hW hp with h | ⟨w, s, h⟩
    · rw [hr] at h; exact h
    · rw [h, SparseCore.Cfg.lev_none]; exact Nat.zero_le _
  iexact HO

/-- The TensorCore's unscoped references. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

end Cert.Vq

end
-- ==== Proof.Rows.lean ====
/-
  How the gather's work is dealt to the 32 vector subcores: subcore `s` of SparseCore `c` is worker `2 s + c`, which
  takes row `2 s + c` of the index words and writes two chunks of 128 rows of the result. The whole arrays are cut by
  those numbers, first by SparseCore, then by subcore, then by chunk; the table is shared by halving.
-/
module

public import proofs.«01_k».proof.Proof.Common

@[expose] public section

noncomputable section

namespace Cert.Vq.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev iLoc (d : Dev nD) : Loc nD τ sig := (SparseCore.T d).loc main_v3
abbrev tLoc (d : Dev nD) : Loc nD τ sig := (SparseCore.T d).loc main_v2_2
abbrev oLoc (d : Dev nD) : Loc nD τ sig := (SparseCore.T d).loc main_v4

/-! ## Cutting by a key -/

/-- A region held is its fibres under a key held at once. -/
theorem pointsTo_fibres {ℓ : Loc nD τ sig} (S : Finset (Idx ℓ)) (q : PosShare TreeShare) (f : Buf (Elt F) ℓ) (n : ℕ)
    (key : Idx ℓ → ℕ) (hk : ∀ i ∈ S, key i < n) :
    (ℓ ↦[S]{q} f : sProp 𝕄) = bigSep Finset.univ fun k : Fin n => ℓ ↦[S.filter fun i => key i = k.val]{q} f := by
  rw [← pointsTo_biUnion Finset.univ (ℓ := ℓ) (fun k : Fin n => S.filter fun i => key i = k.val)]
  · congr 1
    ext i
    simp only [Finset.mem_biUnion, Finset.mem_univ, true_and, Finset.mem_filter]
    exact ⟨fun h => ⟨⟨key i, hk i h⟩, h, rfl⟩, fun ⟨_, h, _⟩ => h⟩
  · intro a _ b _ hab
    refine Finset.disjoint_left.mpr fun i hi hj => hab (Fin.ext ?_)
    exact (Finset.mem_filter.mp hi).2.symm.trans (Finset.mem_filter.mp hj).2

/-! ## Shares by halving -/

/-- The share that the binary digits of `i`, lowest first, pick from `q` by `n` halvings. -/
def cut : ℕ → PosShare TreeShare → ℕ → PosShare TreeShare
  | 0, q, _ => q
  | n + 1, q, i => cut n (if i % 2 = 0 then q.left else q.right) (i / 2)

/-- `Fin (2 ^ (n + 1))` is a lowest digit and the rest. -/
def digits (n : ℕ) : Fin (2 ^ n) ⊕ Fin (2 ^ n) ≃ Fin (2 ^ (n + 1)) where
  toFun := Sum.elim (fun i => ⟨2 * i.val, by have := i.isLt; have e := pow_succ 2 n; omega⟩) (fun i => ⟨2 * i.val + 1, by have := i.isLt; have e := pow_succ 2 n; omega⟩)
  invFun i := if i.val % 2 = 0 then .inl ⟨i.val / 2, by have := i.isLt; have e := pow_succ 2 n; omega⟩
    else .inr ⟨i.val / 2, by have := i.isLt; have e := pow_succ 2 n; omega⟩
  left_inv x := by
    rcases x with i | i
    · simp
    · have h : (2 * i.val + 1) % 2 = 1 := by omega
      have h' : (2 * i.val + 1) / 2 = i.val := by omega
      simp [h, h']
  right_inv i := by
    by_cases h : i.val % 2 = 0
    · simp only [h, ↓reduceIte, Sum.elim_inl]; exact Fin.ext (by simp; omega)
    · simp only [h, ↓reduceIte, Sum.elim_inr]; exact Fin.ext (by simp; omega)

/-- What is held at a share is held at once at the shares its halvings give. -/
theorem pointsTo_cut {ℓ : Loc nD τ sig} (S : Finset (Idx ℓ)) (f : Buf (Elt F) ℓ) : ∀ (n : ℕ) (q : PosShare TreeShare),
    (ℓ ↦[S]{q} f : sProp 𝕄) = bigSep Finset.univ fun i : Fin (2 ^ n) => ℓ ↦[S]{cut n q i.val} f
  | 0, q => (bigSep_univ_of_subsingleton (0 : Fin 1) (Φ := fun i : Fin (2 ^ 0) => (ℓ ↦[S]{cut 0 q i.val} f : sProp 𝕄))).symm
  | n + 1, q => by
    have hh := pointsTo_share (ℓ := ℓ) (I := S) (f := f) (Name := ℕ) (U := UU) (Lvl := ℕ) (Ix := HIx 1) (PosShare.mem_left_op_right q)
    rw [BI.Entails.antisymm hh.1 hh.2, pointsTo_cut S f n q.left, pointsTo_cut S f n q.right,
      bigSep_univ_equiv (digits n) (fun i : Fin (2 ^ (n + 1)) => (ℓ ↦[S]{cut (n + 1) q i.val} f : sProp 𝕄)), bigSep_univ_sum]
    congr 1 <;> refine bigSep_congr fun i _ => ?_
    · have e : cut (n + 1) q (digits n (Sum.inl i)).val = cut n q.left i.val := by
        show cut n (if (2 * i.val) % 2 = 0 then q.left else q.right) ((2 * i.val) / 2) = _
        rw [if_pos (by omega), show (2 * i.val) / 2 = i.val by omega]
      rw [e]
    · have e : cut (n + 1) q (digits n (Sum.inr i)).val = cut n q.right i.val := by
        show cut n (if (2 * i.val + 1) % 2 = 0 then q.left else q.right) ((2 * i.val + 1) / 2) = _
        rw [if_neg (by omega), show (2 * i.val + 1) / 2 = i.val by omega]
      rw [e]

/-- SparseCore `c`'s share of the table, and its subcore `s`'s. -/
abbrev tqC (c : ℕ) : PosShare TreeShare := cut 1 fullShare c
abbrev tqS (c s : ℕ) : PosShare TreeShare := cut 4 (tqC c) s

/-! ## The pieces -/

/-- The index words of SparseCore `c`, and of its subcore `s`. -/
def iC (c : ℕ) : Finset S32x2x128.Idx := Finset.univ.filter fun j => (j 0).val % 2 = c
def iS (c s : ℕ) : Finset S32x2x128.Idx := (iC c).filter fun j => (j 0).val / 2 = s

/-- The number of an element's row among all the rows of the result. -/
def row (j : S8x1024x128.Idx) : ℕ := (j 0).val * 1024 + (j 1).val
theorem row_lt (j : S8x1024x128.Idx) : row j < 8192 := by
  have h0 : (j 0).val < 8 := (j 0).isLt
  have h1 : (j 1).val < 1024 := (j 1).isLt
  unfold row; omega

/-- The rows of the result SparseCore `c` writes, and its subcore `s`. -/
def oC (c : ℕ) : Finset S8x1024x128.Idx := Finset.univ.filter fun j => row j / 256 % 2 = c
def oS (c s : ℕ) : Finset S8x1024x128.Idx := (oC c).filter fun j => row j / 256 / 2 = s

theorem i_cores (d : Dev nD) (f : Buf (Elt F) (iLoc d)) :
    (iLoc d ↦{fullShare} f : sProp 𝕄) = bigSep Finset.univ fun c : Fin 2 => iLoc d ↦[iC c.val]{fullShare} f :=
  pointsTo_fibres (ℓ := iLoc d) Finset.univ fullShare f 2 (fun j : S32x2x128.Idx => (j 0).val % 2) fun j _ => Nat.mod_lt _ (by decide)
theorem i_subs (d : Dev nD) (c : ℕ) (f : Buf (Elt F) (iLoc d)) :
    (iLoc d ↦[iC c]{fullShare} f : sProp 𝕄) = bigSep Finset.univ fun s : Fin 16 => iLoc d ↦[iS c s.val]{fullShare} f :=
  pointsTo_fibres (ℓ := iLoc d) (iC c) fullShare f 16 (fun j : S32x2x128.Idx => (j 0).val / 2) fun j _ => by
    have h0 : (j 0).val < 32 := (j 0).isLt
    show (j 0).val / 2 < 16; omega
theorem o_cores (d : Dev nD) (f : Buf (Elt F) (oLoc d)) :
    (oLoc d ↦{fullShare} f : sProp 𝕄) = bigSep Finset.univ fun c : Fin 2 => oLoc d ↦[oC c.val]{fullShare} f :=
  pointsTo_fibres (ℓ := oLoc d) Finset.univ fullShare f 2 (fun j : S8x1024x128.Idx => row j / 256 % 2) fun j _ => Nat.mod_lt _ (by decide)
theorem o_subs (d : Dev nD) (c : ℕ) (f : Buf (Elt F) (oLoc d)) :
    (oLoc d ↦[oC c]{fullShare} f : sProp 𝕄) = bigSep Finset.univ fun s : Fin 16 => oLoc d ↦[oS c s.val]{fullShare} f :=
  pointsTo_fibres (ℓ := oLoc d) (oC c) fullShare f 16 (fun j : S8x1024x128.Idx => row j / 256 / 2) fun j _ => by
    have := row_lt j
    show row j / 256 / 2 < 16; omega
theorem t_cores (d : Dev nD) (f : Buf (Elt F) (tLoc d)) :
    (tLoc d ↦{fullShare} f : sProp 𝕄) = bigSep Finset.univ fun c : Fin 2 => tLoc d ↦{tqC c.val} f := pointsTo_cut _ f 1 fullShare
theorem t_subs (d : Dev nD) (c : ℕ) (f : Buf (Elt F) (tLoc d)) :
    (tLoc d ↦{tqC c} f : sProp 𝕄) = bigSep Finset.univ fun s : Fin 16 => tLoc d ↦{tqS c s.val} f := pointsTo_cut _ f 4 (tqC c)

/-! ## The gathered rows -/

/-- The place of row `n`'s index word. -/
def word (n : ℕ) (h : n < 8192) : S32x2x128.Idx := fun a => match a with
  | 0 => ⟨n / 256, by show n / 256 < 32; omega⟩
  | 1 => ⟨n / 128 % 2, by show n / 128 % 2 < 2; omega⟩
  | 2 => ⟨n % 128, by show n % 128 < 128; omega⟩

/-- The rows of the table the words name. -/
def gathered (Tb : S512x128.Idx → Elt F .f32) (I : S32x2x128.Idx → Elt F .i32) : S8x1024x128.Idx → Elt F .f32 :=
  fun j => Tb (fun a => match a with
    | 0 => ⟨(I (word (row j) (row_lt j))).toNat % 512, Nat.mod_lt _ (by decide)⟩
    | 1 => j 2)

end Cert.Vq.Sc

end
-- ==== Proof.Tile.lean ====
/-
  One vector subcore's task of the SparseCore gather: fetch the worker's 256 index words, gather the table's rows they
  name in two transfers of 128 rows each, copy each chunk of rows to its place in the result. What is proved of it: given
  that every index word names a row of the table, the task ends with its chunks of the result holding the rows named.
-/
module

public import proofs.«01_k».proof.Proof.Rows
public import Idealize.ShloMosaic.Lib.ValueLayout
public import Idealize.ShloMosaic.Lib.Pipeline.Value
public import Idealize.ShloMosaic.Lib.Pipeline.ValueKit.Geometry

@[expose] public section

noncomputable section

namespace Cert.Vq.Sc

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The memrefs the task addresses -/

abbrev tV : Memref sig .scVector .hbm S512x128 .f32 := Memref.whole main_v2_2_scv
abbrev iV : Memref sig .scVector .hbm S32x2x128 .i32 := Memref.whole main_v3_scv
abbrev oV : Memref sig .scVector .hbm S8x1024x128 .f32 := Memref.whole main_v4_scv
abbrev aV : Memref sig .scVector .vmem S2x128 .i32 := Memref.whole cc1_scratch0
abbrev bV : Memref sig .scVector .vmem S3x128x128 .f32 := Memref.whole cc1_scratch1

variable (d : Dev nD) (L : grid1.Coords)

abbrev cV : Fin τ.nSC := (L 0).castLE hcore1
abbrev jV : Fin τ.nSub := (L 1).castLE hsub1
abbrev cN : ℕ := (L 0).val
abbrev sN : ℕ := (L 1).val

abbrev iK : Memref sig .scVector .hbm S2x128 .i32 :=
  (iV.slice (Rect.unit (s := S32x2x128) (k1_off1 L) S1x2x128.size (k1_off1_inb L)) (fun _ => rfl)).squeeze S2x128 squeezes_S1x2x128_S2x128
abbrev tK : Memref sig .scVector .hbm S512x128 .f32 :=
  tV.slice (Rect.unit (s := S512x128) ![0, 0] S512x128.size inb_S512x128_S512x128_0_0) (fun _ => rfl)
abbrev oK0 : Memref sig .scVector .hbm S128x128 .f32 :=
  (oV.slice (Rect.unit (s := S8x1024x128) (k1_off2 L 0#32) S1x128x128.size (k1_off2_inb L 0)) (fun _ => rfl)).squeeze S128x128 squeezes_S1x128x128_S128x128
abbrev oK1 : Memref sig .scVector .hbm S128x128 .f32 :=
  (oV.slice (Rect.unit (s := S8x1024x128) (k1_off2 L 128#32) S1x128x128.size (k1_off2_inb L 1)) (fun _ => rfl)).squeeze S128x128 squeezes_S1x128x128_S128x128
abbrev aK0 : Memref sig .scVector .vmem S128 .i32 :=
  (aV.slice (Rect.unit (s := S2x128) ![0, 0] S1x128.size inb_S2x128_S1x128_0_0) (fun _ => rfl)).squeeze S128 squeezes_S1x128_S128
abbrev aK1 : Memref sig .scVector .vmem S128 .i32 :=
  (aV.slice (Rect.unit (s := S2x128) ![1, 0] S1x128.size inb_S2x128_S1x128_1_0) (fun _ => rfl)).squeeze S128 squeezes_S1x128_S128
abbrev bK0 : Memref sig .scVector .vmem S128x128 .f32 :=
  (bV.slice (Rect.unit (s := S3x128x128) ![0, 0, 0] S1x128x128.size inb_S3x128x128_S1x128x128_0_0_0) (fun _ => rfl)).squeeze S128x128 squeezes_S1x128x128_S128x128
abbrev bK1 : Memref sig .scVector .vmem S128x128 .f32 :=
  (bV.slice (Rect.unit (s := S3x128x128) ![1, 0, 0] S1x128x128.size inb_S3x128x128_S1x128x128_1_0_0) (fun _ => rfl)).squeeze S128x128 squeezes_S1x128x128_S128x128

/-- Where the two chunks begin. -/
theorem off2_eq : ∀ (L : grid1.Coords) (r : Fin 2), k1_off2 L (BitVec.ofNat 32 (128 * r.val))
    = ![(2 * (L 1).val + (L 0).val) / 4, (2 * (L 1).val + (L 0).val) % 4 * 256 + 128 * r.val, 0] := by decide +kernel

/-! ## Where an index of each lies -/

theorem emb_iK (x : Fin 2) (y : Fin 128) : ((iK L).view.emb (ix2 x y) 0).val = 2 * sN L + cN L
    ∧ ((iK L).view.emb (ix2 x y) 1).val = x.val ∧ ((iK L).view.emb (ix2 x y) 2).val = y.val := by
  have e : ∀ a, ((iK L).view.emb (ix2 x y) a).val
      = k1_off1 L a + (ix3 (⟨0, Nat.one_pos⟩ : Fin 1) x y a).val := fun a => by
    rw [← reshapeEquiv_ix2_1ab (squeezes_S1x2x128_S2x128.numel_eq) x y]
    exact ValueKit.rect_emb_unit_val _ _ _ _ _
  refine ⟨?_, ?_, ?_⟩
  · rw [e, k1_off1_eq]; simp [ix3]
  · rw [e, k1_off1_eq]; exact Nat.zero_add _
  · rw [e, k1_off1_eq]; exact Nat.zero_add _

theorem emb_oK0 (x : Fin 128) (y : Fin 128) : row ((oK0 L).view.emb (ix2 x y)) = (2 * sN L + cN L) * 256 + x.val
    ∧ ((oK0 L).view.emb (ix2 x y) 2).val = y.val := by
  have e : ∀ a, ((oK0 L).view.emb (ix2 x y) a).val
      = k1_off2 L 0#32 a + (ix3 (⟨0, Nat.one_pos⟩ : Fin 1) x y a).val := fun a => by
    rw [← reshapeEquiv_ix2_1ab (squeezes_S1x128x128_S128x128.numel_eq) x y]
    exact ValueKit.rect_emb_unit_val _ _ _ _ _
  have h := off2_eq L 0
  change k1_off2 L 0#32 = _ at h
  unfold row
  have hs : sN L = (L 1).val := rfl
  have hc : cN L = (L 0).val := rfl
  refine ⟨?_, ?_⟩
  · rw [e, e, h]; simp [ix3]; omega
  · rw [e, h]; exact Nat.zero_add _

theorem emb_oK1 (x : Fin 128) (y : Fin 128) : row ((oK1 L).view.emb (ix2 x y)) = (2 * sN L + cN L) * 256 + 128 + x.val
    ∧ ((oK1 L).view.emb (ix2 x y) 2).val = y.val := by
  have e : ∀ a, ((oK1 L).view.emb (ix2 x y) a).val
      = k1_off2 L 128#32 a + (ix3 (⟨0, Nat.one_pos⟩ : Fin 1) x y a).val := fun a => by
    rw [← reshapeEquiv_ix2_1ab (squeezes_S1x128x128_S128x128.numel_eq) x y]
    exact ValueKit.rect_emb_unit_val _ _ _ _ _
  have h := off2_eq L 1
  change k1_off2 L 128#32 = _ at h
  unfold row
  have hs : sN L = (L 1).val := rfl
  have hc : cN L = (L 0).val := rfl
  refine ⟨?_, ?_⟩
  · rw [e, e, h]; simp [ix3]; omega
  · rw [e, h]; exact Nat.zero_add _

theorem emb_aK0 (y : S128.Idx) : aK0.view.emb y = ix2 (0 : Fin 2) (y 0) := by
  show (Rect.unit (s := S2x128) ![0, 0] S1x128.size inb_S2x128_S1x128_0_0).emb (Shape.reshapeEquiv squeezes_S1x128_S128.numel_eq y) = _
  rw [show Shape.reshapeEquiv squeezes_S1x128_S128.numel_eq y = Fin.cons ⟨0, Nat.one_pos⟩ y from Shape.reshapeEquiv_cons_one (d := ![128]) _ y]
  funext a; refine Fin.ext ?_
  refine (ValueKit.rect_emb_unit_val _ _ _ _ _).trans ?_
  match a with
  | 0 => rfl
  | 1 => exact Nat.zero_add _
theorem emb_aK1 (y : S128.Idx) : aK1.view.emb y = ix2 (1 : Fin 2) (y 0) := by
  show (Rect.unit (s := S2x128) ![1, 0] S1x128.size inb_S2x128_S1x128_1_0).emb (Shape.reshapeEquiv squeezes_S1x128_S128.numel_eq y) = _
  rw [show Shape.reshapeEquiv squeezes_S1x128_S128.numel_eq y = Fin.cons ⟨0, Nat.one_pos⟩ y from Shape.reshapeEquiv_cons_one (d := ![128]) _ y]
  funext a; refine Fin.ext ?_
  refine (ValueKit.rect_emb_unit_val _ _ _ _ _).trans ?_
  match a with
  | 0 => rfl
  | 1 => exact Nat.zero_add _

/-! ## The element sets -/

theorem set_piece {κ : Kind} (b : Ref sig κ) (r : Rect b.ty.shape) (s' : Shape) (h : s'.numel = r.shape.numel) :
    (((View.whole b).slice r).reshape s' h).set = r.set := by rw [View.set_reshape, View.set_slice_whole]

theorem mem_iK (j : S32x2x128.Idx) : j ∈ (iK L).view.set ↔ (j 0).val = 2 * sN L + cN L := by
  refine (Iff.of_eq (congrArg (j ∈ ·) (set_piece main_v3_scv (Rect.unit (s := S32x2x128) (k1_off1 L) S1x2x128.size (k1_off1_inb L)) _ _))).trans ?_
  rw [Rect.mem_set_unit, k1_off1_eq]
  have h0 : (j 0).val < 32 := (j 0).isLt
  have h1 : (j 1).val < 2 := (j 1).isLt
  have h2 : (j 2).val < 128 := (j 2).isLt
  constructor
  · intro h; have := h 0; simp at this; show _ = 2 * (L 1).val + (L 0).val; omega
  · intro h a
    change _ = 2 * (L 1).val + (L 0).val at h
    match a with
    | 0 => simp; omega
    | 1 => simp; omega
    | 2 => simp; omega

theorem mem_oK0 (j : S8x1024x128.Idx) : j ∈ (oK0 L).view.set ↔ row j / 128 = 2 * (2 * sN L + cN L) := by
  refine (Iff.of_eq (congrArg (j ∈ ·) (set_piece main_v4_scv (Rect.unit (s := S8x1024x128) (k1_off2 L 0#32) S1x128x128.size (k1_off2_inb L 0)) _ _))).trans ?_
  have hk := off2_eq L 0
  change k1_off2 L 0#32 = _ at hk
  rw [Rect.mem_set_unit, hk]
  have h0 : (j 0).val < 8 := (j 0).isLt
  have h1 : (j 1).val < 1024 := (j 1).isLt
  have h2 : (j 2).val < 128 := (j 2).isLt
  unfold row
  constructor
  · intro h; have a0 := h 0; have a1 := h 1; simp at a0 a1; show _ = 2 * (2 * (L 1).val + (L 0).val); omega
  · intro h a
    change _ = 2 * (2 * (L 1).val + (L 0).val) at h
    match a with
    | 0 => simp; omega
    | 1 => simp; omega
    | 2 => simp; omega

theorem mem_oK1 (j : S8x1024x128.Idx) : j ∈ (oK1 L).view.set ↔ row j / 128 = 2 * (2 * sN L + cN L) + 1 := by
  refine (Iff.of_eq (congrArg (j ∈ ·) (set_piece main_v4_scv (Rect.unit (s := S8x1024x128) (k1_off2 L 128#32) S1x128x128.size (k1_off2_inb L 1)) _ _))).trans ?_
  have hk := off2_eq L 1
  change k1_off2 L 128#32 = _ at hk
  rw [Rect.mem_set_unit, hk]
  have h0 : (j 0).val < 8 := (j 0).isLt
  have h1 : (j 1).val < 1024 := (j 1).isLt
  have h2 : (j 2).val < 128 := (j 2).isLt
  unfold row
  constructor
  · intro h; have a0 := h 0; have a1 := h 1; simp at a0 a1; show _ = 2 * (2 * (L 1).val + (L 0).val) + 1; omega
  · intro h a
    change _ = 2 * (2 * (L 1).val + (L 0).val) + 1 at h
    match a with
    | 0 => simp; omega
    | 1 => simp; omega
    | 2 => simp; omega

theorem mem_aK0 (j : S2x128.Idx) : j ∈ aK0.view.set ↔ (j 0).val = 0 := by
  refine (Iff.of_eq (congrArg (j ∈ ·) (set_piece cc1_scratch0 (Rect.unit (s := S2x128) ![0, 0] S1x128.size inb_S2x128_S1x128_0_0) _ _))).trans ?_
  rw [Rect.mem_set_unit]
  have h0 : (j 0).val < 2 := (j 0).isLt
  have h1 : (j 1).val < 128 := (j 1).isLt
  constructor
  · intro h; have := h 0; simp at this; omega
  · intro h a
    match a with
    | 0 => simp; omega
    | 1 => simp; omega
theorem mem_aK1 (j : S2x128.Idx) : j ∈ aK1.view.set ↔ (j 0).val = 1 := by
  refine (Iff.of_eq (congrArg (j ∈ ·) (set_piece cc1_scratch0 (Rect.unit (s := S2x128) ![1, 0] S1x128.size inb_S2x128_S1x128_1_0) _ _))).trans ?_
  rw [Rect.mem_set_unit]
  have h0 : (j 0).val < 2 := (j 0).isLt
  have h1 : (j 1).val < 128 := (j 1).isLt
  constructor
  · intro h; have := h 0; simp at this; omega
  · intro h a
    match a with
    | 0 => simp; omega
    | 1 => simp; omega

theorem bK1_subset : bK1.view.set ⊆ Finset.univ \ bK0.view.set := by
  intro j hj
  refine Finset.mem_sdiff.mpr ⟨Finset.mem_univ _, fun hj0 => ?_⟩
  have h0 := (congrArg (j ∈ ·) (set_piece cc1_scratch1 (Rect.unit (s := S3x128x128) ![0, 0, 0] S1x128x128.size inb_S3x128x128_S1x128x128_0_0_0) S128x128
    squeezes_S1x128x128_S128x128.numel_eq)).mp hj0
  have h1 := (congrArg (j ∈ ·) (set_piece cc1_scratch1 (Rect.unit (s := S3x128x128) ![1, 0, 0] S1x128x128.size inb_S3x128x128_S1x128x128_1_0_0) S128x128
    squeezes_S1x128x128_S128x128.numel_eq)).mp hj
  have a := Rect.mem_set_unit.mp h0 0
  have b := Rect.mem_set_unit.mp h1 0
  simp at a b; omega

theorem iS_eq : iS (cN L) (sN L) = (iK L).view.set := by
  ext j
  refine Iff.trans ?_ (mem_iK L j).symm
  have hc : cN L < 2 := (L 0).isLt
  simp only [iS, iC, Finset.mem_filter, Finset.mem_univ, true_and]
  omega
theorem oK0_subset : (oK0 L).view.set ⊆ oS (cN L) (sN L) := by
  intro j hj
  have h := (mem_oK0 L j).mp hj
  have hc : cN L < 2 := (L 0).isLt
  refine Finset.mem_filter.mpr ⟨Finset.mem_filter.mpr ⟨Finset.mem_univ _, ?_⟩, ?_⟩ <;> omega
theorem oK1_eq : oS (cN L) (sN L) \ (oK0 L).view.set = (oK1 L).view.set := by
  ext j
  refine Iff.trans ?_ (mem_oK1 L j).symm
  rw [Finset.mem_sdiff]
  refine (and_congr Iff.rfl (not_congr (mem_oK0 L j))).trans ?_
  have hc : cN L < 2 := (L 0).isLt
  simp only [oS, oC, Finset.mem_filter, Finset.mem_univ, true_and]
  omega
theorem aK1_eq : Finset.univ \ aK0.view.set = aK1.view.set := by
  ext j
  refine Iff.trans ?_ (mem_aK1 j).symm
  rw [Finset.mem_sdiff]
  refine (and_congr Iff.rfl (not_congr (mem_aK0 j))).trans ?_
  have h0 : (j 0).val < 2 := (j 0).isLt
  simp only [Finset.mem_univ, true_and]
  omega

/-! ## What the task moves -/

/-- The worker's index words, as fetched. -/
def words (I : S32x2x128.Idx → Elt F .i32) : S2x128.Idx → Elt F .i32 := (iK L).view.read (Elt F) I

theorem words_apply (I : S32x2x128.Idx → Elt F .i32) (x : Fin 2) (y : Fin 128) (n : ℕ) (hn : n < 8192)
    (e : n = (2 * sN L + cN L) * 256 + 128 * x.val + y.val) : words L I (ix2 x y) = I (word n hn) := by
  unfold words
  rw [View.read_apply]
  refine (cast_eq _ _).trans (congrArg I ?_)
  obtain ⟨e0, e1, e2⟩ := emb_iK L x y
  have hx := x.isLt
  have hy := y.isLt
  funext a; refine Fin.ext ?_
  match a with
  | 0 => exact e0.trans (by show _ = n / 256; omega)
  | 1 => exact e1.trans (by show _ = n / 128 % 2; omega)
  | 2 => exact e2.trans (by show _ = n % 128; omega)

/-- Every index word names a row of the table. -/
abbrev InRange (I : S32x2x128.Idx → Elt F .i32) : Prop := ∀ j, (I j : BitVec 32).toNat < 512

theorem inb0 (I : S32x2x128.Idx → Elt F .i32) (hI : InRange I) :
    ∀ x, (aK0.view.read (Elt F) (words L I) x : BitVec 32).toNat < S512x128.size gathers_S512x128_S128x128.axis := fun x => by
  rw [View.read_apply, cast_eq]; exact hI _
theorem inb1 (I : S32x2x128.Idx → Elt F .i32) (hI : InRange I) :
    ∀ x, (aK1.view.read (Elt F) (words L I) x : BitVec 32).toNat < S512x128.size gathers_S512x128_S128x128.axis := fun x => by
  rw [View.read_apply, cast_eq]; exact hI _

theorem read_aK0 (A : S2x128.Idx → Elt F .i32) (y : S128.Idx) : aK0.view.read (Elt F) A y = A (ix2 (0 : Fin 2) (y 0)) := by
  rw [View.read_apply, cast_eq, emb_aK0]; rfl
theorem read_aK1 (A : S2x128.Idx → Elt F .i32) (y : S128.Idx) : aK1.view.read (Elt F) A y = A (ix2 (1 : Fin 2) (y 0)) := by
  rw [View.read_apply, cast_eq, emb_aK1]; rfl

/-- The two chunks gathered. -/
def chunk0 (Tb : S512x128.Idx → Elt F .f32) (I : S32x2x128.Idx → Elt F .i32) (hI : InRange I) : S128x128.Idx → Elt F .f32 :=
  SparseCore.gatherPayload gathers_S512x128_S128x128 (tK.view.read (Elt F) Tb) (SparseCore.rows (aK0.view.read (Elt F) (words L I)) rfl (inb0 L I hI))
def chunk1 (Tb : S512x128.Idx → Elt F .f32) (I : S32x2x128.Idx → Elt F .i32) (hI : InRange I) : S128x128.Idx → Elt F .f32 :=
  SparseCore.gatherPayload gathers_S512x128_S128x128 (tK.view.read (Elt F) Tb) (SparseCore.rows (aK1.view.read (Elt F) (words L I)) rfl (inb1 L I hI))

theorem emb_tK (y : S512x128.Idx) : tK.view.emb y = y := by
  funext a; refine Fin.ext ?_
  refine (ValueKit.rect_emb_unit_val _ _ _ _ _).trans ?_
  match a with
  | 0 => exact Nat.zero_add _
  | 1 => exact Nat.zero_add _

theorem chunk0_apply (Tb : S512x128.Idx → Elt F .f32) (I : S32x2x128.Idx → Elt F .i32) (hI : InRange I) (x y : Fin 128) :
    chunk0 L Tb I hI (ix2 x y) = gathered Tb I ((oK0 L).view.emb (ix2 x y)) := by
  unfold chunk0 SparseCore.gatherPayload gathered
  rw [View.read_apply, cast_eq, emb_tK]
  obtain ⟨e0, e2⟩ := emb_oK0 L x y
  refine congrArg Tb ?_
  funext a; refine Fin.ext ?_
  match a with
  | 0 =>
    refine (congrArg Fin.val (Shape.Gathers.idx_axis gathers_S512x128_S128x128 _ (ix2 x y))).trans ?_
    refine (congrArg BitVec.toNat ((read_aK0 (words L I) _).trans (words_apply L I (0 : Fin 2) _ _ (row_lt _) (e0.trans ?_)))).trans
      (Nat.mod_eq_of_lt (hI _)).symm
    have := Shape.rowMajor_val_one (S128.rowMajor.symm (Fin.cast rfl x))
    rw [Equiv.apply_symm_apply] at this
    change x.val = _ at this
    show _ = (2 * sN L + cN L) * 256 + 128 * 0 + (S128.rowMajor.symm (Fin.cast rfl x) 0).val
    omega
  | 1 => exact (Shape.Gathers.idx_of_ne gathers_S512x128_S128x128 _ (ix2 x y) 1 (by decide)).trans e2.symm

theorem chunk1_apply (Tb : S512x128.Idx → Elt F .f32) (I : S32x2x128.Idx → Elt F .i32) (hI : InRange I) (x y : Fin 128) :
    chunk1 L Tb I hI (ix2 x y) = gathered Tb I ((oK1 L).view.emb (ix2 x y)) := by
  unfold chunk1 SparseCore.gatherPayload gathered
  rw [View.read_apply, cast_eq, emb_tK]
  obtain ⟨e0, e2⟩ := emb_oK1 L x y
  refine congrArg Tb ?_
  funext a; refine Fin.ext ?_
  match a with
  | 0 =>
    refine (congrArg Fin.val (Shape.Gathers.idx_axis gathers_S512x128_S128x128 _ (ix2 x y))).trans ?_
    refine (congrArg BitVec.toNat ((read_aK1 (words L I) _).trans (words_apply L I (1 : Fin 2) _ _ (row_lt _) (e0.trans ?_)))).trans
      (Nat.mod_eq_of_lt (hI _)).symm
    have := Shape.rowMajor_val_one (S128.rowMajor.symm (Fin.cast rfl x))
    rw [Equiv.apply_symm_apply] at this
    change x.val = _ at this
    show _ = (2 * sN L + cN L) * 256 + 128 * 1 + (S128.rowMajor.symm (Fin.cast rfl x) 0).val
    omega
  | 1 => exact (Shape.Gathers.idx_of_ne gathers_S512x128_S128x128 _ (ix2 x y) 1 (by decide)).trans e2.symm

/-- A chunk copied to its place is the gathered rows there. -/
theorem out0 (Tb : S512x128.Idx → Elt F .f32) (I : S32x2x128.Idx → Elt F .i32) (hI : InRange I) (f : S8x1024x128.Idx → Elt F .f32) :
    ∀ j ∈ (oK0 L).view.set, (oK0 L).view.write (Elt F) f (chunk0 L Tb I hI) Finset.univ j = gathered Tb I j := by
  intro j hj
  obtain ⟨x, rfl⟩ := View.exists_emb_of_mem_set _ hj
  rw [View.write_emb_of_mem _ _ (Finset.mem_univ x), cast_eq]
  have e : x = ix2 (x 0) (x 1) := funext fun a => match a with | 0 => rfl | 1 => rfl
  rw [e]; exact chunk0_apply L Tb I hI _ _
theorem out1 (Tb : S512x128.Idx → Elt F .f32) (I : S32x2x128.Idx → Elt F .i32) (hI : InRange I) (f : S8x1024x128.Idx → Elt F .f32) :
    ∀ j ∈ (oK1 L).view.set, (oK1 L).view.write (Elt F) f (chunk1 L Tb I hI) Finset.univ j = gathered Tb I j := by
  intro j hj
  obtain ⟨x, rfl⟩ := View.exists_emb_of_mem_set _ hj
  rw [View.write_emb_of_mem _ _ (Finset.mem_univ x), cast_eq]
  have e : x = ix2 (x 0) (x 1) := funext fun a => match a with | 0 => rfl | 1 => rfl
  rw [e]; exact chunk1_apply L Tb I hI _ _

end Cert.Vq.Sc

end
-- ==== Proof.TileRun.lean ====
/-
  The run of one vector subcore's task of the SparseCore gather, and what the call hands to each core and each subcore.
-/
module

public import proofs.«01_k».proof.Proof.Tile
public import Idealize.ShloMosaic.Lib.SparseCore.Quiescent
public import Idealize.ShloMosaic.Lib.SparseCore.Ops
public import Idealize.ShloMosaic.Lib.SparseCore.Stream

@[expose] public section

noncomputable section

namespace Cert.Vq.Sc

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

section Tile

variable (d : Dev nD) (L : grid1.Coords)

/-- The subcore at the coordinates. -/
abbrev thr : Thread nD τ := V d (cV L) (jV L)

abbrev cell (s : DmaSems sig S_) : GSem nD τ sig := (thr d L, .dma s.sem)

/-- The cells the task waits on, out of the subcore's own. -/
theorem ownSems0_V :
    ∃ R : sProp 𝕄, (ownSems0 (thr d L) : sProp 𝕄)
      = iprop(semVal (cell d L cc1_scoped0) 0 ∗ semVal (cell d L cc1_scratch2) 0 ∗ semVal (cell d L cc1_scratch3) 0
          ∗ semVal (cell d L cc1_scratch5) 0 ∗ semVal (cell d L cc1_scratch6) 0 ∗ R) := by
  have mem : ∀ s : DmaSems sig S_, (SemLoc.dma s.sem : SemLoc sig).isScoped .scVector = true → cell d L s ∈ ownCells (thr d L) :=
    fun s h => (mem_ownCells (g := cell d L s)).mpr ⟨rfl, h⟩
  have ne : ∀ s t : DmaSems sig S_, (SemLoc.dma s.sem : SemLoc sig) ≠ .dma t.sem → cell d L s ≠ cell d L t :=
    fun s t h e => h (congrArg Prod.snd e)
  refine ⟨bigSep ((((((ownCells (thr d L)).erase (cell d L cc1_scoped0)).erase (cell d L cc1_scratch2)).erase (cell d L cc1_scratch3)).erase
    (cell d L cc1_scratch5)).erase (cell d L cc1_scratch6)) fun g => semVal g 0, ?_⟩
  unfold SparseCore.Cfg.ownSems0
  rw [SparseCore.bigSep_erase' (mem cc1_scoped0 (by decide)),
    SparseCore.bigSep_erase' (Finset.mem_erase.mpr ⟨ne _ _ (by decide), mem cc1_scratch2 (by decide)⟩),
    SparseCore.bigSep_erase' (Finset.mem_erase.mpr ⟨ne _ _ (by decide), Finset.mem_erase.mpr ⟨ne _ _ (by decide), mem cc1_scratch3 (by decide)⟩⟩),
    SparseCore.bigSep_erase' (Finset.mem_erase.mpr ⟨ne _ _ (by decide), Finset.mem_erase.mpr ⟨ne _ _ (by decide),
      Finset.mem_erase.mpr ⟨ne _ _ (by decide), mem cc1_scratch5 (by decide)⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), mem cc1_scratch6 (by decide)⟩⟩⟩⟩)]

/-- The two scratch buffers, out of the subcore's own. -/
theorem ownBufs_V :
    ∃ R : sProp 𝕄, (ownBufs (thr d L) : sProp 𝕄)
      = iprop((∃ f, (thr d L).loc cc1_scratch0 ↦{fullShare} f) ∗ (∃ f, (thr d L).loc cc1_scratch1 ↦{fullShare} f) ∗ R) := by
  refine ⟨bigSep (((ownRefs (τ := τ) (.scVector (cV L) (jV L))).erase ((Proc.scVector (cV L) (jV L)).devRef cc1_scratch0)).erase
    ((Proc.scVector (cV L) (jV L)).devRef cc1_scratch1)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- A task's share of what the call holds: its index words, a share of the table, its rows of the result. -/
abbrev tileHeld (I : Buf (Elt F) (iLoc d)) (Tb : Buf (Elt F) (tLoc d)) (c s : ℕ) (f : Buf (Elt F) (oLoc d)) : sProp 𝕄 :=
  iprop((iLoc d ↦[iS c s]{fullShare} I) ∗ (tLoc d ↦{tqS c s} Tb) ∗ oLoc d ↦[oS c s]{fullShare} f)

theorem credit0 : ∀ h : S512x128.Gathers 0 S128x128, ∑ j, (bK0.slice (S128x128.rowRect h.axis' j) (S128x128.stride_rowRect h.axis' j)).view.dmaCredit
    = bK0.view.dmaCredit := by decide
theorem credit1 : ∀ h : S512x128.Gathers 0 S128x128, ∑ j, (bK1.slice (S128x128.rowRect h.axis' j) (S128x128.stride_rowRect h.axis' j)).view.dmaCredit
    = bK1.view.dmaCredit := by decide

theorem landed0 (I : Buf (Elt F) (iLoc d)) (Tb : Buf (Elt F) (tLoc d)) (o : Buf (Elt F) (oLoc d)) (hI : InRange I) (p : S128x128.Idx → Elt F .f32)
    (hp : p = chunk0 L Tb I hI) : ((oK0 L).view.loc (thr d L) ↦[(oK0 L).view.set]{fullShare} (oK0 L).view.writes (Elt F) o [⟨Rect.whole S128x128, p⟩] : sProp 𝕄)
      = (oLoc d ↦[(oK0 L).view.set]{fullShare} gathered Tb I) := by
  subst hp
  refine pointsTo_congr fun j hj => ?_
  rw [← View.write_univ_eq_writes_whole]
  exact out0 L Tb I hI o j hj
theorem landed1 (I : Buf (Elt F) (iLoc d)) (Tb : Buf (Elt F) (tLoc d)) (o : Buf (Elt F) (oLoc d)) (hI : InRange I) (p : S128x128.Idx → Elt F .f32)
    (hp : p = chunk1 L Tb I hI) : ((oK1 L).view.loc (thr d L) ↦[(oK1 L).view.set]{fullShare} (oK1 L).view.writes (Elt F) o [⟨Rect.whole S128x128, p⟩] : sProp 𝕄)
      = (oLoc d ↦[oS (cN L) (sN L) \ (oK0 L).view.set]{fullShare} gathered Tb I) := by
  subst hp
  rw [oK1_eq]
  refine pointsTo_congr fun j hj => ?_
  rw [← View.write_univ_eq_writes_whole]
  exact out1 L Tb I hI o j hj

set_option maxHeartbeats 4000000 in
theorem tile_body (hF : (K (F := F)).Facts) (I : Buf (Elt F) (iLoc d)) (Tb : Buf (Elt F) (tLoc d)) (o : Buf (Elt F) (oLoc d)) (hI : InRange I)
    (O : CellTallies nD τ sig (HIx 1)) (W : Waits sig (HIx 1)) (hO : ∀ g, O g none = 0) :
    iprop(levAts (K (F := F)).L (K (F := F)).lev ∗ emp ∗ tileHeld d I Tb (cN L) (sN L) o
        ∗ scopedBufs (thr d L) ∗ scopedSems0 (thr d L) ∗ owes (thr d L) O W)
      ⊢ wp frame (wpE (defs₀ (F := F)) 𝒱₀ (thr d L) none) Set.univ
          (cc1_sc_gather L tV (Memref.isWhole_whole _) iV (Memref.isWhole_whole _) oV (Memref.isWhole_whole _)
            aV (Memref.isWhole_whole _) bV (Memref.isWhole_whole _) cc1_scratch2 cc1_scratch3 cc1_scratch4 cc1_scratch5 cc1_scratch6 cc1_scratch7 cc1_scoped0)
          fun _ => iprop(tileHeld d I Tb (cN L) (sN L) (gathered Tb I)
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc1_sc_gather_eq_skeleton]; unfold cc1_sc_gather_skel
  simp only [k1_part1_eq_skeleton, k1_part2_eq_skeleton, k1_part3_eq_skeleton]
  unfold k1_part1_skel k1_part2_skel k1_part3_skel
  rw [(K (F := F)).scopedBufs_V hF d (cV L) (jV L), SparseCore.Cfg.scopedSems0_V (Val := Elt F) d (cV L) (jV L), hRS, hRB]
  iintro ⟨#Hlv, -, ⟨Hi, Ht, Ho⟩, ⟨⟨%fa, Ha⟩, ⟨%fb, Hb⟩, Hbufs⟩, ⟨HsI, HsA, HsB, HsC, HsD, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (iLoc d ↦[iS (cN L) (sN L)]{fullShare} I : sProp 𝕄)
    = ((iK L).view.loc (thr d L) ↦[(iK L).view.set]{fullShare} I) by rw [iS_eq])) $$ Hi
  ihave Ha' := (Entails.of_eq (show ((thr d L).loc cc1_scratch0 ↦{fullShare} fa : sProp 𝕄) = (aV.view.loc (thr d L) ↦{fullShare} fa) from rfl)) $$ Ha
  sl_exec
  -- the words fetched; the two lists, the two chunks of rows, two shares of the table
  ihave Ha2 := (Entails.of_eq (show (aV.view.loc (thr d L) ↦{fullShare} View.write (Elt F) aV.view fa (tile_body.sl.dma0 d L I) Finset.univ : sProp 𝕄)
    = ((thr d L).loc cc1_scratch0 ↦{fullShare} words L I) by rw [View.write_whole_univ]; rfl)) $$ Ha'
  ihave Ha3 := (pointsTo_split_subset (q := fullShare) (f := (words L I : Buf (Elt F) ((thr d L).loc cc1_scratch0))) (S := Finset.univ)
    (Finset.subset_univ aK0.view.set)).1 $$ Ha2
  icases Ha3 with ⟨Ha0, Ha1⟩
  ihave Ha1' := (Entails.of_eq (show ((thr d L).loc cc1_scratch0 ↦[Finset.univ \ aK0.view.set]{fullShare} words L I : sProp 𝕄)
    = (aK1.view.loc (thr d L) ↦[aK1.view.set]{fullShare} words L I) by rw [aK1_eq])) $$ Ha1
  ihave Hb1 := (pointsTo_split_subset (q := fullShare) (f := fb) (S := Finset.univ) (Finset.subset_univ bK0.view.set)).1 $$ Hb
  icases Hb1 with ⟨Hb0, Hb2⟩
  ihave Hb3 := (pointsTo_split_subset (q := fullShare) (f := fb) bK1_subset).1 $$ Hb2
  icases Hb3 with ⟨Hb1, Hb2⟩
  ihave Ht1 := (pointsTo_share (PosShare.mem_left_op_right (tqS (cN L) (sN L)))).1 $$ Ht
  icases Ht1 with ⟨HtL, HtR⟩
  ihave HtL' := (pointsTo_split_subset (f := Tb) (S := Finset.univ) (Finset.subset_univ tK.view.set)).1 $$ HtL
  icases HtL' with ⟨HtL, HtLr⟩
  ihave HtR' := (pointsTo_split_subset (f := Tb) (S := Finset.univ) (Finset.subset_univ tK.view.set)).1 $$ HtR
  icases HtR' with ⟨HtR, HtRr⟩
  iapply (SparseCore.wp_indirectGatherLocal countersEmb 𝒱₀ (thr d L) none (hg := gathers_S512x128_S128x128) (default : HIx 1)
      bK0.view.dmaCredit (credit0 _) (by decide) (inb0 L I hI)) $$ [HtL Hb0 Ha0 HsA]
  · isplitl [HtL]; · iexact HtL
    isplitl [Hb0]; · iexact Hb0
    isplitl [Ha0]; · iexact Ha0
    iexact HsA
  iintro HflA
  sl_exec
  iapply (SparseCore.wp_indirectGatherLocal countersEmb 𝒱₀ (thr d L) none (hg := gathers_S512x128_S128x128) (default : HIx 1)
      bK1.view.dmaCredit (credit1 _) (by decide) (inb1 L I hI)) $$ [HtR Hb1 Ha1' HsB]
  · isplitl [HtR]; · iexact HtR
    isplitl [Hb1]; · iexact Hb1
    isplitl [Ha1']; · iexact Ha1'
    iexact HsB
  iintro HflB
  sl_exec
  iapply (Transfers.wp_waitLocalO countersEmb 𝒱₀ (thr d L) none (default : HIx 1) (rfl : bK0.view.dmaCredit = _)) $$ [HflA HO]
  · isplitl [HflA]; · iexact HflA
    isplitl [HO]; · iexact HO
    iapply (Transfers.MayWaits.elim (SemLoc.dma cc1_scratch2.sem)) $$ Hmw
  iintro ⟨⟨Hb0, HtL, Ha0⟩, HsA, HO⟩
  ihave Hb0' := (Entails.of_eq (show (bK0.view.loc (thr d L) ↦[bK0.view.set]{fullShare} View.write (Elt F) bK0.view fb (SparseCore.gatherPayload gathers_S512x128_S128x128
        (tK.view.read (Elt F) Tb) (SparseCore.rows (aK0.view.read (Elt F) (words L I)) rfl (inb0 L I hI))) Finset.univ : sProp 𝕄)
    = (bK0.view.loc (thr d L) ↦[bK0.view.set]{fullShare} View.write (Elt F) bK0.view fb (chunk0 L Tb I hI) Finset.univ) from rfl)) $$ Hb0
  ihave Ho2 := (pointsTo_split_subset (q := fullShare) (f := o) (oK0_subset L)).1 $$ Ho
  icases Ho2 with ⟨Ho0, Ho1⟩
  ihave Ho0' := (Entails.of_eq (show (oLoc d ↦[(oK0 L).view.set]{fullShare} o : sProp 𝕄)
    = ((oK0 L).view.loc (thr d L) ↦[(oK0 L).view.set]{fullShare} o) from rfl)) $$ Ho0
  ihave Ho1' := (Entails.of_eq (show (oLoc d ↦[oS (cN L) (sN L) \ (oK0 L).view.set]{fullShare} o : sProp 𝕄)
    = ((oK1 L).view.loc (thr d L) ↦[(oK1 L).view.set]{fullShare} o) by rw [oK1_eq])) $$ Ho1
  sl_exec
  iapply (Transfers.wp_waitLocalO countersEmb 𝒱₀ (thr d L) none (default : HIx 1) (rfl : bK1.view.dmaCredit = _)) $$ [HflB HO]
  · isplitl [HflB]; · iexact HflB
    isplitl [HO]; · iexact HO
    iapply (Transfers.MayWaits.elim (SemLoc.dma cc1_scratch3.sem)) $$ Hmw
  iintro ⟨⟨Hb1, HtR, Ha1⟩, HsB, HO⟩
  ihave Hb1' := (Entails.of_eq (show (bK1.view.loc (thr d L) ↦[bK1.view.set]{fullShare} View.write (Elt F) bK1.view fb (SparseCore.gatherPayload gathers_S512x128_S128x128
        (tK.view.read (Elt F) Tb) (SparseCore.rows (aK1.view.read (Elt F) (words L I)) rfl (inb1 L I hI))) Finset.univ : sProp 𝕄)
    = (bK1.view.loc (thr d L) ↦[bK1.view.set]{fullShare} View.write (Elt F) bK1.view fb (chunk1 L Tb I hI) Finset.univ) from rfl)) $$ Hb1
  sl_exec
  sl_step
  -- the chunks copied are the rows gathered; the pieces joined again
  ihave Ho0 := (Entails.of_eq (landed0 d L I Tb o hI (tile_body.sl.dma0_1 d L I Tb hI fb) (View.read_write_univ _ _))) $$ Ho0'
  ihave Ho1 := (Entails.of_eq (landed1 d L I Tb o hI (tile_body.sl.dma0_2 d L I Tb hI fb) (View.read_write_univ _ _))) $$ Ho1'
  ihave Ho := (pointsTo_split_subset (q := fullShare) (ℓ := oLoc d) (f := gathered Tb I) (oK0_subset L)).2 $$ [Ho0 Ho1]; · isplitl [Ho0] <;> iassumption
  ihave HtL' := (pointsTo_split_subset (f := Tb) (S := Finset.univ) (Finset.subset_univ tK.view.set)).2 $$ [HtL HtLr]; · isplitl [HtL] <;> iassumption
  ihave HtR' := (pointsTo_split_subset (f := Tb) (S := Finset.univ) (Finset.subset_univ tK.view.set)).2 $$ [HtR HtRr]; · isplitl [HtR] <;> iassumption
  ihave Ht := (pointsTo_share (PosShare.mem_left_op_right (tqS (cN L) (sN L)))).2 $$ [HtL' HtR']; · isplitl [HtL'] <;> iassumption
  ihave Ha1' := (Entails.of_eq (show ((thr d L).loc cc1_scratch0 ↦[Finset.univ \ aK0.view.set]{fullShare} words L I : sProp 𝕄)
    = (aK1.view.loc (thr d L) ↦[aK1.view.set]{fullShare} words L I) by rw [aK1_eq]).symm) $$ Ha1
  ihave Ha := (pointsTo_split_subset (ℓ := (thr d L).loc cc1_scratch0) (q := fullShare) (f := words L I) (S := Finset.univ)
    (Finset.subset_univ aK0.view.set)).2 $$ [Ha0 Ha1']; · isplitl [Ha0] <;> iassumption
  ihave Hb := (pointsTo_join_subset (ℓ := (thr d L).loc cc1_scratch1) bK1_subset) $$ [Hb1' Hb2]; · isplitl [Hb1'] <;> iassumption
  ihave Hb := (pointsTo_join_subset (ℓ := (thr d L).loc cc1_scratch1) (Finset.subset_univ bK0.view.set)) $$ [Hb0' Hb]; · isplitl [Hb0'] <;> iassumption
  isplitl [Hi' Ht Ho]
  · isplitl [Hi']
    · iapply (Entails.of_eq (show (iLoc d ↦[iS (cN L) (sN L)]{fullShare} I : sProp 𝕄)
        = ((iK L).view.loc (thr d L) ↦[(iK L).view.set]{fullShare} I) by rw [iS_eq]).symm); iexact Hi'
    isplitl [Ht] <;> iassumption
  isplitl [Ha Hb Hbufs]
  · isplitl [Ha]; · iexists _; iexact Ha
    isplitl [Hb]; · iexists _; iexact Hb
    iexact Hbufs
  isplitl [HsI HsA HsB HsC HsD Hsems]
  · isplitl [HsI]; · iexact HsI
    isplitl [HsA]; · iexact HsA
    isplitl [HsB]; · iexact HsB
    isplitl [HsC]; · iexact HsC
    isplitl [HsD]; · iexact HsD
    iexact Hsems
  iexists _; isplitr
  swap; · iexact HO
  ipureintro; intro p hp
  simp only [Finset.mem_insert] at hp
  rcases hp with hp | hp | hp | hp | hp | hp
  all_goals first | exact .inl hp | exact .inr (hp ▸ rfl)

def coords (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_gather (coords c s) tV (Memref.isWhole_whole _) iV (Memref.isWhole_whole _)
          oV (Memref.isWhole_whole _) aV (Memref.isWhole_whole _) bV (Memref.isWhole_whole _)
          cc1_scratch2 cc1_scratch3 cc1_scratch4 cc1_scratch5 cc1_scratch6 cc1_scratch7 cc1_scoped0) ⟨⟩ c s := rfl

end Tile

/-! ## What the call carries, from the values at the call -/

variable (V : Vals F)

abbrev coreHeld (d : Dev nD) (c : ℕ) (f : Buf (Elt F) (oLoc d)) : sProp 𝕄 :=
  iprop((iLoc d ↦[iC c]{fullShare} V d main_v3) ∗ (tLoc d ↦{tqC c} V d main_v2_2) ∗ oLoc d ↦[oC c]{fullShare} f)

/-- The result after the call. -/
abbrev res (d : Dev nD) : Buf (Elt F) (oLoc d) := gathered (V d main_v2_2) (V d main_v3)

/-- The call gives each core its words, its share of the table and its rows of the result, and each subcore its part of
    these; they come back with the rows gathered. -/
def P : (K (F := F)).Pay (nD := nD) (Val := Elt F) (Name := ℕ) (U := UU) where
  st := fun q d c => match q with | 0 => coreHeld V d c.val (V d main_v4)
  dn := fun q d c => match q with | 0 => coreHeld V d c.val (res V d)
  go := fun q d c i => match q with | 0 => tileHeld d (V d main_v3) (V d main_v2_2) c.val i.val (V d main_v4)
  td := fun q d c i => match q with | 0 => tileHeld d (V d main_v3) (V d main_v2_2) c.val i.val (res V d)
  x := fun _ _ => iprop(emp)

instance P_storable : (P V).IsStorable where
  st q d c := match q with
    | 0 => (inferInstance : BI.Storable (upEmb : UEmb _ 𝕄) (coreHeld V d c.val (V d main_v4)))
  dn q d c := match q with
    | 0 => (inferInstance : BI.Storable (upEmb : UEmb _ 𝕄) (coreHeld V d c.val (res V d)))
  go q d c i := match q with
    | 0 => (inferInstance : BI.Storable (upEmb : UEmb _ 𝕄) (tileHeld d (V d main_v3) (V d main_v2_2) c.val i.val (V d main_v4)))
  td q d c i := match q with
    | 0 => (inferInstance : BI.Storable (upEmb : UEmb _ 𝕄) (tileHeld d (V d main_v3) (V d main_v2_2) c.val i.val (res V d)))

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'; isplitr
  · ipureintro; exact fun p hp => (hW' p hp).imp_right Or.inl
  · iexact HO

set_option maxRecDepth 16384 in
theorem tileObl (hI : ∀ d, InRange (V d main_v3)) : (K (F := F)).TileObl (D (F := F)) 𝒱 (P V) v₀ 0 := by
  intro d c i O W hO _ _
  simp only [show (P V).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) facts (V d main_v3) (V d main_v2_2) (V d main_v4) (hI d) O W hO).trans
    (wp_mono Idealize.ShloMosaic.frame _ _ fun _ => obl_post)

theorem vecSplit : (K (F := F)).VecSplit' (P V) 0 := by
  intro d c
  show coreHeld V d c.val (V d main_v4) ⊢ |={Set.univ}=> iprop(
      (bigSep Finset.univ fun i : Fin 16 => tileHeld d (V d main_v3) (V d main_v2_2) c.val i.val (V d main_v4))
      ∗ ((bigSep Finset.univ fun i : Fin 16 => tileHeld d (V d main_v3) (V d main_v2_2) c.val i.val (res V d))
          -∗ coreHeld V d c.val (res V d)))
  rw [bigSep_sep', bigSep_sep', bigSep_sep', bigSep_sep', ← i_subs, ← t_subs, ← o_subs, ← o_subs]
  iintro H; imodintro
  isplitl [H]; · iexact H
  iintro H; iexact H

/-- The cores' parts at once are the three buffers. -/
theorem cores (d : Dev nD) (f : Buf (Elt F) (oLoc d)) :
    (bigSep Finset.univ fun c : Fin 2 => coreHeld V d c.val f)
      = iprop((iLoc d ↦{fullShare} V d main_v3) ∗ (tLoc d ↦{fullShare} V d main_v2_2) ∗ oLoc d ↦{fullShare} f) := by
  rw [bigSep_sep', bigSep_sep', ← i_cores, ← t_cores, ← o_cores]
theorem st_eq (d : Dev nD) : (bigSep Finset.univ fun c : Fin ((K (F := F)).nCore 0) => (P V).st 0 d c)
    = iprop((iLoc d ↦{fullShare} V d main_v3) ∗ (tLoc d ↦{fullShare} V d main_v2_2) ∗ oLoc d ↦{fullShare} V d main_v4) := cores V d _
theorem dn_eq (d : Dev nD) : (bigSep Finset.univ fun c : Fin ((K (F := F)).nCore 0) => (P V).dn 0 d c)
    = iprop((iLoc d ↦{fullShare} V d main_v3) ∗ (tLoc d ↦{fullShare} V d main_v2_2) ∗ oLoc d ↦{fullShare} res V d) := cores V d _

end Cert.Vq.Sc

end
-- ==== Proof.Body0.lean ====
/-
  The first TensorCore call: the codes of the last eight batches, their part of the loss, and the table of decoded
  codewords.  Its body, run once at a symbolic grid point over staging buffers held whole.
-/
module

public import proofs.«01_k».proof.Proof.Common

@[expose] public section

noncomputable section

namespace Cert.Vq.R0

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The chain of selects over the 64 slices of the scores, from the state after the first few: the running maximum
    before its last step, the running index with it, the last slice, and whether that slice wins. -/
def tl (v21 : FVec F S64x8x2048 .f32) (v34 : FVec F S8x2048 .f32) (v36 : IVec S8x2048 32) (v38 : FVec F S8x2048 .f32) (v39 : IVec S8x2048 1) :
    Σ' (_ : FVec F S8x2048 .f32) (_ : IVec S8x2048 32) (_ : FVec F S8x2048 .f32), IVec S8x2048 1 :=
  let v88 := k0_pay38 v21 v34 v38 v39
  let v90 := k0_pay39 v21 v34 v36 v38 v39
  let v138 := k0_pay64 v21 v88 v90
  let v141 := k0_pay66 v21 v88
  let v142 := k0_pay67 v21 v88
  let v190 := k0_pay91 v21 v142
  let v192 := k0_pay92 v21 v138 v141 v142
  let v193 := k0_pay93 v21
  let v240 := k0_pay118 v21 v190 v192 v193
  let v243 := k0_pay120 v21 v190 v193
  let v244 := k0_pay121 v21 v190 v193
  let v292 := k0_pay145 v21 v244
  let v294 := k0_pay146 v21 v240 v243 v244 37#32
  let v296 := k0_pay147 v21
  let v342 := k0_pay171 v21 v292 v294 v296
  let v345 := k0_pay173 v21 v292 v296
  let v346 := k0_pay174 v21 v292 v296
  let v347 := k0_pay175
  ⟨k0_pay199 v21 v346, k0_pay200 v21 v342 v345 v346 v347, k0_pay201 v21, k0_pay202 v21 v346⟩

/-- What the first part of the body hands on. -/
abbrev Mid (F : FTy → Type) := Σ' (_ : BitVec 32) (_ : FVec F S2048x32 .f32) (_ : FVec F S64x8x2048 .f32) (_ : FVec F S8x2048 .f32) (_ : IVec S8x2048 32) (_ : FVec F S8x2048 .f32), IVec S8x2048 1

/-- The chain of selects, over the scores of the block. -/
def tail (C : Vec F S512x32 .f32) (X : Vec F S2x1024x96 .f32) (W : Vec F S96x32 .f32) (B : Vec F S1x32 .f32) :
    Σ' (_ : FVec F S8x2048 .f32) (_ : IVec S8x2048 32) (_ : FVec F S8x2048 .f32), IVec S8x2048 1 :=
  tl (k0_pay3 C X W B) (k0_pay10 C X W B) (k0_pay11 C X W B) (k0_pay12 C X W B) (k0_pay13 C X W B)

/-- The codes the body stores. -/
def qv (C : Vec F S512x32 .f32) (X : Vec F S2x1024x96 .f32) (W : Vec F S96x32 .f32) (B : Vec F S1x32 .f32) : S1x1x2048.Idx → Elt F .i32 :=
  k0_pay205 (tail C X W B).1 (tail C X W B).2.1 (tail C X W B).2.2.1 (tail C X W B).2.2.2

/-- The loss the body stores over `l`, the one before, at grid coordinate `a`. -/
def lossv (C : Vec F S512x32 .f32) (X : Vec F S2x1024x96 .f32) (W : Vec F S96x32 .f32) (B : Vec F S1x32 .f32) (a : BitVec 32)
    (l : S1x1.Idx → Elt F .f32) : S1x1.Idx → Elt F .f32 :=
  k0_pay206 a (k0_pay2 X W B) (tail C X W B).1 (tail C X W B).2.2.1 (tail C X W B).2.2.2 l

/-- The table the body stores at the first grid point. -/
def tabv (C : Vec F S512x32 .f32) (Wd : Vec F S32x96 .f32) (Bd : Vec F S1x96 .f32) : S512x128.Idx → Elt F .f32 := k0_pay1 C Wd Bd

/-- The body after its first part: the codes and the loss. -/
def rest (M7 : Memref sig .tc .vmem S1x1x2048 .i32) (M8 : Memref sig .tc .vmem S1x1 .f32) (r : Mid F) :
    Prog (TpuEff nD τ sig (Elt F) Λ₀ .tc) PUnit := do
  let _v ← Prog.lift (.load M7 (Rect.unit (s := S1x1x2048) ![0, 0, 0] S1x1x2048.size inb_S1x1x2048_S1x1x2048_0_0_0).toLoadRect (View.loadsAt_vmem h_S1x1x2048))
  Prog.lift (.store M7 (Rect.unit (s := S1x1x2048) ![0, 0, 0] S1x1x2048.size inb_S1x1x2048_S1x1x2048_0_0_0) (k0_pay205 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2) Finset.univ (View.stores_vmem_bits_univ h_S1x1x2048 rfl) (.inl rfl))
  let v430 : Vec F S1x1 .f32 ← Prog.lift (.load M8 (Rect.unit (s := S1x1) ![0, 0] S1x1.size inb_S1x1_S1x1_0_0).toLoadRect (View.loadsAt_vmem h_S1x1))
  let _w ← Prog.lift (.load M8 (Rect.unit (s := S1x1) ![0, 0] S1x1.size inb_S1x1_S1x1_0_0).toLoadRect (View.loadsAt_vmem h_S1x1))
  Prog.lift (.store M8 (Rect.unit (s := S1x1) ![0, 0] S1x1.size inb_S1x1_S1x1_0_0) (k0_pay206 r.1 r.2.1 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2 v430) Finset.univ (View.stores_vmem_bits_univ h_S1x1 rfl) (.inl rfl))
  pure ⟨⟩

set_option maxRecDepth 65536 in
/-- The body is its first part and then the rest. -/
theorem body_eq (i : grid0.Coords) (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S512x128 .f32) (h9 : M9.IsWhole) :
    cc0__tc_body (F := F) i M1 h1 M2 h2 M3 h3 M4 h4 M5 h5 M6 h6 M7 h7 M8 h8 M9 h9 = (k0_part1 (F := F) i M1 h1 M2 h2 M3 h3 M4 h4 M5 h5 M6 h6 M7 h7 M8 h8 M9 h9 >>= fun r => rest M7 M8 r) := by
  rw [cc0__tc_body_eq_skeleton]; unfold cc0__tc_body_skel
  rw [k0_part9_eq_skeleton]; unfold k0_part9_skel
  rw [k0_part2_eq_skeleton, k0_part3_eq_skeleton, k0_part4_eq_skeleton, k0_part5_eq_skeleton,
    k0_part6_eq_skeleton, k0_part7_eq_skeleton, k0_part8_eq_skeleton]
  rw [bind_assoc]
  congr 1

/-- The rest of the body on the two buffers it writes. -/
theorem restRun (c : Dev nD) (M7 : Memref sig .tc .vmem S1x1x2048 .i32) (M8 : Memref sig .tc .vmem S1x1 .f32) (r : Mid F)
    (l : S1x1.Idx → Elt F .f32) (E : Set ℕ) (Q : PUnit → sProp 𝕄) :
    iprop((∃ d, owns (c : Thread nD τ) M7 fullShare d) ∗ owns (c : Thread nD τ) M8 fullShare l
        ∗ (iprop(owns (c : Thread nD τ) M7 fullShare (k0_pay205 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2)
            ∗ owns (c : Thread nD τ) M8 fullShare (k0_pay206 r.1 r.2.1 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2 l)) -∗ Q ⟨⟩))
      ⊢ wp frame (wpE (defs₀ (F := F)) Variants.none c none) E (rest M7 M8 r) Q := by
  obtain ⟨r1, r2, r3, r4, r5, r6, r7⟩ := r
  dsimp only
  unfold rest owns
  dsimp only
  generalize tl r3 r4 r5 r6 r7 = q
  iintro ⟨⟨%d7, %f7, -, H7⟩, ⟨%f8, %e8, H8⟩, Hk⟩
  have g8 : View.readAt (Elt F) M8.view (Rect.unit (s := S1x1) ![0, 0] S1x1.size inb_S1x1_S1x1_0_0).toLoadRect f8 = l := by rw [View.readAt_full, e8]
  sl_exec
  sl_step
  iapply Hk
  isplitl [H7]
  · iexists _; isplitr; swap; · iexact H7
    ipureintro; rw [View.read_writes_full]
  iexists _; isplitr; swap; · iexact H8
  ipureintro; rw [View.read_writes_full]

/-- The first part of the body on staging buffers held whole. -/
theorem part1Run (c : Dev nD) (i : grid0.Coords)
    (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S512x128 .f32) (h9 : M9.IsWhole)
    (X : S2x1024x96.Idx → Elt F .f32) (W : S96x32.Idx → Elt F .f32) (B : S1x32.Idx → Elt F .f32) (C : S512x32.Idx → Elt F .f32)
    (Wd : S32x96.Idx → Elt F .f32) (Bd : S1x96.Idx → Elt F .f32) (tb : S512x128.Idx → Elt F .f32)
    (E : Set ℕ) (Q : Mid F → sProp 𝕄) :
    iprop(owns (c : Thread nD τ) M1 fullShare X ∗ owns (c : Thread nD τ) M2 fullShare W ∗ owns (c : Thread nD τ) M3 fullShare B
        ∗ owns (c : Thread nD τ) M4 fullShare C ∗ owns (c : Thread nD τ) M5 fullShare Wd ∗ owns (c : Thread nD τ) M6 fullShare Bd
        ∗ owns (c : Thread nD τ) M9 fullShare tb
        ∗ (iprop(owns (c : Thread nD τ) M1 fullShare X ∗ owns (c : Thread nD τ) M2 fullShare W ∗ owns (c : Thread nD τ) M3 fullShare B
            ∗ owns (c : Thread nD τ) M4 fullShare C ∗ owns (c : Thread nD τ) M5 fullShare Wd ∗ owns (c : Thread nD τ) M6 fullShare Bd
            ∗ owns (c : Thread nD τ) M9 fullShare (if k0_cond1 i = 1#1 then tabv C Wd Bd else tb)) -∗ Q ⟨BitVec.ofNat 32 (i 0).val, k0_pay2 X W B, k0_pay3 C X W B, k0_pay10 C X W B, k0_pay11 C X W B, k0_pay12 C X W B, k0_pay13 C X W B⟩))
      ⊢ wp frame (wpE (defs₀ (F := F)) Variants.none c none) E (k0_part1 i M1 h1 M2 h2 M3 h3 M4 h4 M5 h5 M6 h6 M7 h7 M8 h8 M9 h9) Q := by
  rw [k0_part1_eq_skeleton]
  unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f9, %e9, H9⟩, Hk⟩
  have g1 : View.readAt (Elt F) M1.view (Rect.unit (s := S2x1024x96) ![0, 0, 0] S2x1024x96.size inb_S2x1024x96_S2x1024x96_0_0_0).toLoadRect f1 = X := by rw [View.readAt_full, e1]
  have g2 : View.readAt (Elt F) M2.view (Rect.unit (s := S96x32) ![0, 0] S96x32.size inb_S96x32_S96x32_0_0).toLoadRect f2 = W := by rw [View.readAt_full, e2]
  have g3 : View.readAt (Elt F) M3.view (Rect.unit (s := S1x32) ![0, 0] S1x32.size inb_S1x32_S1x32_0_0).toLoadRect f3 = B := by rw [View.readAt_full, e3]
  have g4 : View.readAt (Elt F) M4.view (Rect.unit (s := S512x32) ![0, 0] S512x32.size inb_S512x32_S512x32_0_0).toLoadRect f4 = C := by rw [View.readAt_full, e4]
  have g5 : View.readAt (Elt F) M5.view (Rect.unit (s := S32x96) ![0, 0] S32x96.size inb_S32x96_S32x96_0_0).toLoadRect f5 = Wd := by rw [View.readAt_full, e5]
  have g6 : View.readAt (Elt F) M6.view (Rect.unit (s := S1x96) ![0, 0] S1x96.size inb_S1x96_S1x96_0_0).toLoadRect f6 = Bd := by rw [View.readAt_full, e6]
  by_cases hc : k0_cond1 i = 1#1
  · rw [if_pos hc]
    simp only [dif_pos hc]
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    iexists _; isplitr; swap; · iexact H9
    ipureintro; rw [View.read_writes_full]; rfl
  · rw [if_neg hc]
    simp only [dif_neg hc]
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    iexists f9; isplitr; · ipureintro; exact e9
    iexact H9

/-- The body on staging buffers held whole. -/
theorem bodyRun (c : Dev nD) (i : grid0.Coords)
    (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S512x128 .f32) (h9 : M9.IsWhole)
    (X : S2x1024x96.Idx → Elt F .f32) (W : S96x32.Idx → Elt F .f32) (B : S1x32.Idx → Elt F .f32) (C : S512x32.Idx → Elt F .f32)
    (Wd : S32x96.Idx → Elt F .f32) (Bd : S1x96.Idx → Elt F .f32) (l : S1x1.Idx → Elt F .f32) (tb : S512x128.Idx → Elt F .f32)
    (E : Set ℕ) (Q : PUnit → sProp 𝕄) :
    iprop(owns (c : Thread nD τ) M1 fullShare X ∗ owns (c : Thread nD τ) M2 fullShare W ∗ owns (c : Thread nD τ) M3 fullShare B
        ∗ owns (c : Thread nD τ) M4 fullShare C ∗ owns (c : Thread nD τ) M5 fullShare Wd ∗ owns (c : Thread nD τ) M6 fullShare Bd
        ∗ (∃ d, owns (c : Thread nD τ) M7 fullShare d) ∗ owns (c : Thread nD τ) M8 fullShare l ∗ owns (c : Thread nD τ) M9 fullShare tb
        ∗ (iprop(owns (c : Thread nD τ) M1 fullShare X ∗ owns (c : Thread nD τ) M2 fullShare W ∗ owns (c : Thread nD τ) M3 fullShare B
            ∗ owns (c : Thread nD τ) M4 fullShare C ∗ owns (c : Thread nD τ) M5 fullShare Wd ∗ owns (c : Thread nD τ) M6 fullShare Bd
            ∗ owns (c : Thread nD τ) M7 fullShare (qv C X W B)
            ∗ owns (c : Thread nD τ) M8 fullShare (lossv C X W B (BitVec.ofNat 32 (i 0).val) l)
            ∗ owns (c : Thread nD τ) M9 fullShare (if k0_cond1 i = 1#1 then tabv C Wd Bd else tb)) -∗ Q ⟨⟩))
      ⊢ wp frame (wpE (defs₀ (F := F)) Variants.none c none) E (cc0__tc_body i M1 h1 M2 h2 M3 h3 M4 h4 M5 h5 M6 h6 M7 h7 M8 h8 M9 h9) Q := by
  rw [body_eq, wp_bind]
  iintro ⟨H1, H2, H3, H4, H5, H6, H7, H8, H9, Hk⟩
  iapply (part1Run c i M1 h1 M2 h2 M3 h3 M4 h4 M5 h5 M6 h6 M7 h7 M8 h8 M9 h9 X W B C Wd Bd tb E _)
  isplitl [H1]; · iexact H1
  isplitl [H2]; · iexact H2
  isplitl [H3]; · iexact H3
  isplitl [H4]; · iexact H4
  isplitl [H5]; · iexact H5
  isplitl [H6]; · iexact H6
  isplitl [H9]; · iexact H9
  iintro ⟨H1, H2, H3, H4, H5, H6, H9⟩
  iapply (restRun c M7 M8 _ l E Q)
  isplitl [H7]; · iexact H7
  isplitl [H8]; · iexact H8
  iintro ⟨H7, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Vq.R0

end
-- ==== Proof.Region0.lean ====
/-
  The first TensorCore call as a step of the program: what its staging buffers hold at each grid point, and what its
  arrays hold after it.
-/
module

public import proofs.«01_k».proof.Proof.Body0

@[expose] public section

noncomputable section

namespace Cert.Vq.R0

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V Vp : Vals F) (O : Dev nD → CellTallies nD τ sig (HIx 1)) (b : ℕ)

/-- The block of input window `w` at point `t`. -/
abbrev stg (c : Dev nD) (w : Fin 9) (t : Fin cfg0.N) : ((cfg0.win w).xblock (cfg0.grid.coords t)).Idx → Elt F (cfg0.win w).elt :=
  ((cfg0.win w).blk t).view.read (Elt F) (V c (Pipeline.arrRef spec0 w))

/-- Point `n` of the grid. -/
def pt (n : ℕ) : Fin cfg0.N := ⟨n % cfg0.N, Nat.mod_lt _ (by decide)⟩

theorem pt_val (t : Fin cfg0.N) : pt t.val = t := Fin.ext (Nat.mod_eq_of_lt t.isLt)

abbrev gX (c : Dev nD) (t : Fin cfg0.N) : S2x1024x96.Idx → Elt F .f32 := stg V c 0 t
abbrev gW (c : Dev nD) (t : Fin cfg0.N) : S96x32.Idx → Elt F .f32 := stg V c 1 t
abbrev gB (c : Dev nD) (t : Fin cfg0.N) : S1x32.Idx → Elt F .f32 := stg V c 2 t
abbrev gC (c : Dev nD) (t : Fin cfg0.N) : S512x32.Idx → Elt F .f32 := stg V c 3 t
abbrev gWd (c : Dev nD) (t : Fin cfg0.N) : S32x96.Idx → Elt F .f32 := stg V c 4 t
abbrev gBd (c : Dev nD) (t : Fin cfg0.N) : S1x96.Idx → Elt F .f32 := stg V c 5 t

/-- The grid coordinate of point `t`, as the body reads it. -/
abbrev co (t : Fin cfg0.N) : BitVec 32 := BitVec.ofNat 32 (grid0.coords t 0).val

/-- The loss after point `n`: what the body stores over the loss before it. -/
def acc (c : Dev nD) : ℕ → S1x1.Idx → Elt F .f32
  | 0 => lossv (gC V c (pt 0)) (gX V c (pt 0)) (gW V c (pt 0)) (gB V c (pt 0)) (co (pt 0)) fun _ => Scalar.ofBits .f32 0x00000000#32
  | n + 1 => lossv (gC V c (pt (n + 1))) (gX V c (pt (n + 1))) (gW V c (pt (n + 1))) (gB V c (pt (n + 1))) (co (pt (n + 1))) (acc c n)

/-- The table the body computes at the first point. -/
def tab (c : Dev nD) := tabv (gC V c (pt 0)) (gWd V c (pt 0)) (gBd V c (pt 0))

/-- The invariant: the scoped buffers the pipeline does not stage. -/
abbrev Φc (c : Dev nD) : sProp 𝕄 := Pipeline.scopedRest (Ix := HIx 1) (Name := ℕ) (U := UU) (Lvl := ℕ) (Val := Elt F) spec0 c

/-- The region's proof data. -/
def dat (c : Dev nD) : Dat τ (Elt F) (HIx 1) ℕ UU ℕ cfg0 c where
  A w := V c (Pipeline.arrRef spec0 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => qv (gC V c t) (gX V c t) (gW V c t) (gB V c t)
    | ⟨7, _⟩ => acc V c t.val
    | ⟨8, _⟩ => tab V c
  Φ _ := Φc c
  q _ := fullShare
  owed _ := O c
  recorded _ := recd (F := F) b c

/-- The family of proof data over the three pipelines. -/
def pdats : (p : Fin 3) → (c : Dev nD) → Dat τ (Elt F) (HIx 1) ℕ UU ℕ (Pipeline.pin (pcfgs (F := F)) adm p) c
  | ⟨0, _⟩ => fun c => dat V O b c
  | ⟨1, _⟩ => fun c => junkDat c
  | ⟨2, _⟩ => fun c => junkDat c

theorem before_0 (c : Dev nD) (t : Fin cfg0.N) (d : (cfg0.win 0).block.Idx → Elt F (cfg0.win 0).elt) : (dat V O b c).before 0 t d = stg V c 0 t :=
  ((dat V O b c).before_in_eq_fetched 0 rfl (fun _ => rfl) (fun _ _ _ => rfl) (fun _ => rfl) t d).trans rfl

theorem before_1 (c : Dev nD) (t : Fin cfg0.N) (d : (cfg0.win 1).block.Idx → Elt F (cfg0.win 1).elt) : (dat V O b c).before 1 t d = stg V c 1 t :=
  ((dat V O b c).before_in_eq_fetched 1 rfl (fun _ => rfl) (fun _ _ _ => rfl) (fun _ => rfl) t d).trans rfl

theorem before_2 (c : Dev nD) (t : Fin cfg0.N) (d : (cfg0.win 2).block.Idx → Elt F (cfg0.win 2).elt) : (dat V O b c).before 2 t d = stg V c 2 t :=
  ((dat V O b c).before_in_eq_fetched 2 rfl (fun _ => rfl) (fun _ _ _ => rfl) (fun _ => rfl) t d).trans rfl

theorem before_3 (c : Dev nD) (t : Fin cfg0.N) (d : (cfg0.win 3).block.Idx → Elt F (cfg0.win 3).elt) : (dat V O b c).before 3 t d = stg V c 3 t :=
  ((dat V O b c).before_in_eq_fetched 3 rfl (fun _ => rfl) (fun _ _ _ => rfl) (fun _ => rfl) t d).trans rfl

theorem before_4 (c : Dev nD) (t : Fin cfg0.N) (d : (cfg0.win 4).block.Idx → Elt F (cfg0.win 4).elt) : (dat V O b c).before 4 t d = stg V c 4 t :=
  ((dat V O b c).before_in_eq_fetched 4 rfl (fun _ => rfl) (fun _ _ _ => rfl) (fun _ => rfl) t d).trans rfl

theorem before_5 (c : Dev nD) (t : Fin cfg0.N) (d : (cfg0.win 5).block.Idx → Elt F (cfg0.win 5).elt) : (dat V O b c).before 5 t d = stg V c 5 t :=
  ((dat V O b c).before_in_eq_fetched 5 rfl (fun _ => rfl) (fun _ _ _ => rfl) (fun _ => rfl) t d).trans rfl

theorem lossv_zero (C : Vec F S512x32 .f32) (X : Vec F S2x1024x96 .f32) (W : Vec F S96x32 .f32) (B : Vec F S1x32 .f32) (l l' : S1x1.Idx → Elt F .f32) :
    lossv C X W B 0#32 l = lossv C X W B 0#32 l' := rfl

/-- The loss the body stores at `t`, whatever the buffer holds at the first point. -/
theorem loss_eq (c : Dev nD) (t : Fin cfg0.N) (d : S1x1.Idx → Elt F .f32) :
    lossv (gC V c t) (gX V c t) (gW V c t) (gB V c t) (co t) ((dat V O b c).before 7 t d) = acc V c t.val := by
  obtain ⟨n, hn⟩ := t
  cases n with
  | zero =>
    have e : pt 0 = ⟨0, hn⟩ := rfl
    have e2 : co ⟨0, hn⟩ = 0#32 := by revert hn; decide +kernel
    show lossv _ _ _ _ _ _ = lossv _ _ _ _ _ _
    rw [e, e2]; exact lossv_zero (F := F) (gC V c ⟨0, hn⟩) (gX V c ⟨0, hn⟩) (gW V c ⟨0, hn⟩) (gB V c ⟨0, hn⟩) _ _
  | succ n =>
    rw [(dat V O b c).before_out_kept 7 rfl ⟨n + 1, hn⟩ (Nat.succ_ne_zero n)
      (by rw [Bool.eq_false_iff]; intro h; have := (flush0_7 _).mp h; simp only [Nat.add_sub_cancel] at this; have h2 : n + 1 < 4 := hn; omega)
      (fun _ => rfl) (fun _ _ => rfl) d]
    have e : pt (n + 1) = ⟨n + 1, hn⟩ := pt_val ⟨n + 1, hn⟩
    show _ = lossv _ _ _ _ _ _
    rw [e]; rfl

attribute [local irreducible] acc qv

theorem cond_iff : ∀ t : Fin cfg0.N, k0_cond1 (grid0.coords t) = 1#1 ↔ t.val = 0 := by decide +kernel

theorem defs₀_row (t : Fin cfg0.N) : defs₀ (F := F) .tc cfg0.body (cfg0.bodyArgs t (cfg0.slots t)) = bodyAt0 t := rfl

theorem idle_8 (i : grid0.Coords) : cfg0.idle 8 i = !(k0_cond1 i == 1#1) := rfl

theorem before_8 (c : Dev nD) (d : S512x128.Idx → Elt F .f32) : ∀ (n : ℕ) (hn : n + 1 < cfg0.N), (dat V O b c).before 8 ⟨n + 1, hn⟩ d = tab V c := by
  intro n
  induction n with
  | zero =>
    intro hn
    rw [(dat V O b c).before_of_pos 8 _ (Nat.succ_ne_zero 0) rfl d,
      if_neg (by intro h; have := (flush0_8 _).mp h; simp only [Nat.add_sub_cancel] at this; omega)]
    have hi : cfg0.idle 8 (cfg0.grid.coords ⟨0 + 1 - 1, Nat.lt_of_le_of_lt (Nat.sub_le _ _) hn⟩) = false := by revert hn; decide +kernel
    unfold Pipeline.Dat.left
    rw [hi]
    rfl
  | succ n ih =>
    intro hn
    rw [(dat V O b c).before_of_pos 8 _ (Nat.succ_ne_zero _) rfl d,
      if_neg (by intro h; have := (flush0_8 _).mp h; simp only [Nat.add_sub_cancel] at this; have h2 : n + 1 + 1 < 4 := hn; omega)]
    have hi : cfg0.idle 8 (cfg0.grid.coords ⟨n + 1 + 1 - 1, Nat.lt_of_le_of_lt (Nat.sub_le _ _) hn⟩) = true := by
      have := mt (cond_iff ⟨n + 1 + 1 - 1, Nat.lt_of_le_of_lt (Nat.sub_le _ _) hn⟩).mp (by simp)
      rw [idle_8]; simpa using this
    unfold Pipeline.Dat.left
    rw [hi]
    exact ih _

theorem body_obligation (c : Dev nD) : BodyObligation (dat V O b c) (defs₀ (F := F)) 𝒱₀ none Set.univ := fun t => by
  rw [bigSep_W0, bigSep_W0, defs₀_row]
  rw [show (dat V O b c).Φ t.castSucc = Φc c from rfl, show (dat V O b c).Φ t.succ = Φc c from rfl,
    show (dat V O b c).owesAt none t.succ = (dat V O b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5]
  have e7 := loss_eq V O b c t d7
  generalize (dat V O b c).before 7 t d7 = l at e7 ⊢
  iapply (bodyRun (F := F) c (grid0.coords t) _ _ _ _ _ _ _ _ _ _ _ _ _ _ _ _ _ _ (gX V c t) (gW V c t) (gB V c t) (gC V c t) (gWd V c t) (gBd V c t)
    l ((dat V O b c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  rw [e7]
  iintro ⟨H0, H1, H2, H3, H4, H5, H6, H7, H8⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [show (dat V O b c).after 7 t = acc V c t.val from rfl]
    iexact H7
  by_cases hc : k0_cond1 (grid0.coords t) = 1#1
  · have hi : cfg0.idle 8 (cfg0.grid.coords t) = false := by rw [idle_8]; simpa using hc
    have ht : t = pt 0 := Fin.ext ((cond_iff t).mp hc)
    rw [if_pos hc, hi]
    subst ht
    iexact H8
  · have hi : cfg0.idle 8 (cfg0.grid.coords t) = true := by rw [idle_8]; simpa using hc
    rw [if_neg hc, hi]
    have e : (dat V O b c).before 8 t d8 = tab V c := by
      obtain ⟨n, hn⟩ := t
      cases n with
      | zero => exact absurd ((cond_iff _).mpr rfl) hc
      | succ n => exact before_8 V O b c d8 n hn
    cases hf : (cfg0.win 8).flush t with
    | false => iexists d8; iexact H8
    | true => rw [e]; iexact H8

/-- Array `main_v2_0` after the region. -/
def resQ (c : Dev nD) : Buf (Elt F) ((c : Thread nD τ).loc main_v2_0) := (dat V O b c).arrAt 6 cfg0.N

/-- Array `main_v2_1` after the region. -/
def resL (c : Dev nD) : Buf (Elt F) ((c : Thread nD τ).loc main_v2_1) := (dat V O b c).arrAt 7 cfg0.N

/-- Array `main_v2_2` after the region. -/
def resT (c : Dev nD) : Buf (Elt F) ((c : Thread nD τ).loc main_v2_2) := (dat V O b c).arrAt 8 cfg0.N

set_option backward.isDefEq.respectTransparency.types false in
/-- The region over the thread state "every unscoped buffer at `V c`, the core owing `O`". -/
def reg (hO : ∀ c g, O c g none = 0) (hVq : ∀ c, Vp c main_v2_0 = resQ V O b c) (hVl : ∀ c, Vp c main_v2_1 = resL V O b c)
    (hVt : ∀ c, Vp c main_v2_2 = resT V O b c)
    (hVp_ne : ∀ c (r : Ref sig .tc), r ≠ main_v2_0 → r ≠ main_v2_1 → r ≠ main_v2_2 → Vp c r = V c r) :
    Pipeline.RegionSeg (pcfgs (F := F)) adm (pdats V O b) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V O b c).loose
  hwaits c := Pipeline.cellsWaits_intro _ _ _ _ _ fun _ _ _ => (K (F := F)).mayWait_none _ (hO c)
  pre c := iprop(unscopedBufs c (V c) ∗ owedSt (F := F) O b c)
  post c := iprop(unscopedBufs c (Vp c) ∗ owedSt (F := F) O b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O b) launch0.win launch0.arr_whole c
      ((pdats V O b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owedSt_owesAt (F := F) O b c (dat V O b c) 0 rfl rfl); iexact HO
    isplitr; · iempintro
    iexact Hrest
  hin c := by
    rw [show (pdats V O b 0 c).Φ 0 = Φc c from rfl]
    iintro ⟨-, -, Hr⟩; iexact Hr
  hout c := by
    rw [Pipeline.ownSems0_none, show (pdats V O b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V O b) ((pdats V O b 0 c).share_full fun _ => rfl) (V c) (Vp c) ((pdats V O b 0 c).arrAt · cfg0.N)
      (fun w => by
        fin_cases w
        · exact ((pdats V O b 0 c).arrAt_in 0 rfl _).trans (hVp_ne c main_arg0 (by decide) (by decide) (by decide)).symm
        · exact ((pdats V O b 0 c).arrAt_in 1 rfl _).trans (hVp_ne c main_arg1 (by decide) (by decide) (by decide)).symm
        · exact ((pdats V O b 0 c).arrAt_in 2 rfl _).trans (hVp_ne c main_v0 (by decide) (by decide) (by decide)).symm
        · exact ((pdats V O b 0 c).arrAt_in 3 rfl _).trans (hVp_ne c main_arg3 (by decide) (by decide) (by decide)).symm
        · exact ((pdats V O b 0 c).arrAt_in 4 rfl _).trans (hVp_ne c main_arg4 (by decide) (by decide) (by decide)).symm
        · exact ((pdats V O b 0 c).arrAt_in 5 rfl _).trans (hVp_ne c main_v1 (by decide) (by decide) (by decide)).symm
        · exact (hVq c).symm
        · exact (hVl c).symm
        · exact (hVt c).symm)
      (fun r hr => hVp_ne c r (fun h => hr (h ▸ Finset.mem_image.mpr ⟨6, Finset.mem_univ _, rfl⟩)) (fun h => hr (h ▸ Finset.mem_image.mpr ⟨7, Finset.mem_univ _, rfl⟩))
        (fun h => hr (h ▸ Finset.mem_image.mpr ⟨8, Finset.mem_univ _, rfl⟩)))
    iintro ⟨Ha, HO, -, Hrest⟩
    imodintro
    isplitl [Ha Hrest]
    · iapply hjoin; isplitl [Ha] <;> iassumption
    iapply (owesAt_owedSt (F := F) O b c (dat V O b c) (Fin.last _) rfl rfl); iexact HO

end Cert.Vq.R0

end
-- ==== Proof.Body2.lean ====
/-
  The second TensorCore call: the codes of the first 56 batches, their part of the loss, and their reconstruction out
  of a table of decoded codewords kept in scratch memory.  Its body, run once at a symbolic grid point over staging buffers held whole.
-/
module

public import proofs.«01_k».proof.Proof.Common

@[expose] public section

noncomputable section

namespace Cert.Vq.R2

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The chain of selects over the 64 slices of the scores, from the state after the first few: the running maximum
    before its last step, the running index with it, the last slice, and whether that slice wins. -/
def tl (v21 : FVec F S64x8x2048 .f32) (v34 : FVec F S8x2048 .f32) (v36 : IVec S8x2048 32) (v38 : FVec F S8x2048 .f32) (v39 : IVec S8x2048 1) :
    Σ' (_ : FVec F S8x2048 .f32) (_ : IVec S8x2048 32) (_ : FVec F S8x2048 .f32), IVec S8x2048 1 :=
  let v88 := k2_pay39 v21 v34 v38 v39
  let v90 := k2_pay40 v21 v34 v36 v38 v39
  let v138 := k2_pay65 v21 v88 v90
  let v141 := k2_pay67 v21 v88
  let v142 := k2_pay68 v21 v88
  let v190 := k2_pay92 v21 v142
  let v192 := k2_pay93 v21 v138 v141 v142
  let v193 := k2_pay94 v21
  let v240 := k2_pay119 v21 v190 v192 v193
  let v243 := k2_pay121 v21 v190 v193
  let v244 := k2_pay122 v21 v190 v193
  let v292 := k2_pay146 v21 v244
  let v294 := k2_pay147 v21 v240 v243 v244 37#32
  let v296 := k2_pay148 v21
  let v342 := k2_pay172 v21 v292 v294 v296
  let v345 := k2_pay174 v21 v292 v296
  let v346 := k2_pay175 v21 v292 v296
  let v347 := k2_pay176
  ⟨k2_pay200 v21 v346, k2_pay201 v21 v342 v345 v346 v347, k2_pay202 v21, k2_pay203 v21 v346⟩

/-- What the first part of the body hands on. -/
abbrev Mid (F : FTy → Type) := Σ' (_ : BitVec 32) (_ : FVec F S2048x32 .f32) (_ : FVec F S64x8x2048 .f32) (_ : FVec F S8x2048 .f32) (_ : IVec S8x2048 32) (_ : FVec F S8x2048 .f32), IVec S8x2048 1

/-- The chain of selects, over the scores of the block. -/
def tail (C : Vec F S512x32 .f32) (X : Vec F S2x1024x96 .f32) (W : Vec F S96x32 .f32) (B : Vec F S1x32 .f32) :
    Σ' (_ : FVec F S8x2048 .f32) (_ : IVec S8x2048 32) (_ : FVec F S8x2048 .f32), IVec S8x2048 1 :=
  tl (k2_pay4 C X W B) (k2_pay11 C X W B) (k2_pay12 C X W B) (k2_pay13 C X W B) (k2_pay14 C X W B)

/-- The codes the body stores. -/
def qv (C : Vec F S512x32 .f32) (X : Vec F S2x1024x96 .f32) (W : Vec F S96x32 .f32) (B : Vec F S1x32 .f32) : S1x1x2048.Idx → Elt F .i32 :=
  k2_pay207 (tail C X W B).1 (tail C X W B).2.1 (tail C X W B).2.2.1 (tail C X W B).2.2.2

/-- The loss the body stores over `l`, the one before, at grid coordinate `a`. -/
def lossv (C : Vec F S512x32 .f32) (X : Vec F S2x1024x96 .f32) (W : Vec F S96x32 .f32) (B : Vec F S1x32 .f32) (a : BitVec 32)
    (l : S1x1.Idx → Elt F .f32) : S1x1.Idx → Elt F .f32 :=
  k2_pay208 a (k2_pay3 X W B) (tail C X W B).1 (tail C X W B).2.2.1 (tail C X W B).2.2.2 l

/-- The table the body stores in its scratch at the first grid point. -/
def tabv (C : Vec F S512x32 .f32) (Wd : Vec F S32x96 .f32) (Bd : Vec F S1x96 .f32) : S512x96.Idx → Elt F .f32 := k2_pay2 C Wd Bd

/-- The reconstruction the body stores, the scratch holding the table `tb`. -/
def recov (C : Vec F S512x32 .f32) (X : Vec F S2x1024x96 .f32) (W : Vec F S96x32 .f32) (B : Vec F S1x32 .f32) (tb : S512x96.Idx → Elt F .f32) :
    S2x1024x96.Idx → Elt F .f32 :=
  k2_pay1 (k2_pay209 (tail C X W B).1 (tail C X W B).2.1 (tail C X W B).2.2.1 (tail C X W B).2.2.2) (Scalar.ofBits .f32 0x00000000#32)
    (k2_pay210 (F := F)) tb

/-- Whether this is the first grid point, as the body tests it. -/
def cnd (i : grid2.Coords) : BitVec 1 := Scalar.cmpi .ne (Scalar.extui (Scalar.cmpi .eq (BitVec.ofNat 32 (i 0).val) 0#32) : BitVec 32) 0#32

/-- The body after its first part: the codes and the loss. -/
def rest (M7 : Memref sig .tc .vmem S1x1x2048 .i32) (M8 : Memref sig .tc .vmem S1x1 .f32)
    (M9 : Memref sig .tc .vmem S2x1024x96 .f32) (M10 : Memref sig .tc .vmem S512x96 .f32) (r : Mid F) :
    Prog (TpuEff nD τ sig (Elt F) Λ₀ .tc) PUnit := do
  let _v ← Prog.lift (.load M7 (Rect.unit (s := S1x1x2048) ![0, 0, 0] S1x1x2048.size inb_S1x1x2048_S1x1x2048_0_0_0).toLoadRect (View.loadsAt_vmem h_S1x1x2048))
  Prog.lift (.store M7 (Rect.unit (s := S1x1x2048) ![0, 0, 0] S1x1x2048.size inb_S1x1x2048_S1x1x2048_0_0_0) (k2_pay207 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2) Finset.univ (View.stores_vmem_bits_univ h_S1x1x2048 rfl) (.inl rfl))
  let v430 : Vec F S1x1 .f32 ← Prog.lift (.load M8 (Rect.unit (s := S1x1) ![0, 0] S1x1.size inb_S1x1_S1x1_0_0).toLoadRect (View.loadsAt_vmem h_S1x1))
  let _w ← Prog.lift (.load M8 (Rect.unit (s := S1x1) ![0, 0] S1x1.size inb_S1x1_S1x1_0_0).toLoadRect (View.loadsAt_vmem h_S1x1))
  Prog.lift (.store M8 (Rect.unit (s := S1x1) ![0, 0] S1x1.size inb_S1x1_S1x1_0_0) (k2_pay208 r.1 r.2.1 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2 v430) Finset.univ (View.stores_vmem_bits_univ h_S1x1 rfl) (.inl rfl))
  let v442 : Vec F S512x96 .f32 ← Prog.lift (.load M10 (Rect.unit (s := S512x96) ![0, 0] S512x96.size inb_S512x96_S512x96_0_0).toLoadRect (View.loadsAt_vmem h_S512x96))
  let _u ← Prog.lift (.load M9 (Rect.unit (s := S2x1024x96) ![0, 0, 0] S2x1024x96.size inb_S2x1024x96_S2x1024x96_0_0_0).toLoadRect (View.loadsAt_vmem h_S2x1024x96))
  Prog.lift (.store M9 (Rect.unit (s := S2x1024x96) ![0, 0, 0] S2x1024x96.size inb_S2x1024x96_S2x1024x96_0_0_0) (k2_pay1 (k2_pay209 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2) (Scalar.ofBits .f32 0x00000000#32) (k2_pay210 (F := F)) v442) Finset.univ (View.stores_vmem_bits_univ h_S2x1024x96 rfl) (.inl rfl))
  pure ⟨⟩

set_option maxRecDepth 65536 in
/-- The body is its first part and then the rest. -/
theorem body_eq (i : grid2.Coords) (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S2x1024x96 .f32) (h9 : M9.IsWhole)
    (M10 : Memref sig .tc .vmem S512x96 .f32) (h10 : M10.IsWhole) :
    cc2__tc_body_dec (F := F) i M1 h1 M2 h2 M3 h3 M4 h4 M5 h5 M6 h6 M7 h7 M8 h8 M9 h9 M10 h10 = (k2_part1 (F := F) i M1 h1 M2 h2 M3 h3 M4 h4 M5 h5 M6 h6 M7 h7 M8 h8 M9 h9 M10 h10 >>= fun r => rest M7 M8 M9 M10 r) := by
  rw [cc2__tc_body_dec_eq_skeleton]; unfold cc2__tc_body_dec_skel
  rw [k2_part2_eq_skeleton, k2_part3_eq_skeleton, k2_part4_eq_skeleton, k2_part5_eq_skeleton,
    k2_part6_eq_skeleton, k2_part7_eq_skeleton, k2_part8_eq_skeleton, k2_part9_eq_skeleton]
  unfold k2_part9_skel
  congr 1

/-- The rest of the body on the two buffers it writes. -/
theorem restRun (c : Dev nD) (M7 : Memref sig .tc .vmem S1x1x2048 .i32) (M8 : Memref sig .tc .vmem S1x1 .f32)
    (M9 : Memref sig .tc .vmem S2x1024x96 .f32) (M10 : Memref sig .tc .vmem S512x96 .f32) (r : Mid F)
    (l : S1x1.Idx → Elt F .f32) (tb : S512x96.Idx → Elt F .f32) (E : Set ℕ) (Q : PUnit → sProp 𝕄) :
    iprop((∃ d, owns (c : Thread nD τ) M7 fullShare d) ∗ owns (c : Thread nD τ) M8 fullShare l
        ∗ (∃ d, owns (c : Thread nD τ) M9 fullShare d) ∗ owns (c : Thread nD τ) M10 fullShare tb
        ∗ (iprop(owns (c : Thread nD τ) M7 fullShare (k2_pay207 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2)
            ∗ owns (c : Thread nD τ) M8 fullShare (k2_pay208 r.1 r.2.1 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2 l)
            ∗ owns (c : Thread nD τ) M9 fullShare (k2_pay1 (k2_pay209 (tl r.2.2.1 r.2.2.2.1 r.2.2.2.2.1 r.2.2.2.2.2.1 r.2.2.2.2.2.2).1 (tl r.2.2.1 r.2.2.2.1 r.2.2.2.2.1 r.2.2.2.2.2.1 r.2.2.2.2.2.2).2.1 (tl r.2.2.1 r.2.2.2.1 r.2.2.2.2.1 r.2.2.2.2.2.1 r.2.2.2.2.2.2).2.2.1 (tl r.2.2.1 r.2.2.2.1 r.2.2.2.2.1 r.2.2.2.2.2.1 r.2.2.2.2.2.2).2.2.2) (Scalar.ofBits .f32 0x00000000#32) (k2_pay210 (F := F)) tb) ∗ owns (c : Thread nD τ) M10 fullShare tb) -∗ Q ⟨⟩))
      ⊢ wp frame (wpE (defs₀ (F := F)) Variants.none c none) E (rest M7 M8 M9 M10 r) Q := by
  obtain ⟨r1, r2, r3, r4, r5, r6, r7⟩ := r
  dsimp only
  unfold rest owns
  dsimp only
  generalize tl r3 r4 r5 r6 r7 = q
  iintro ⟨⟨%d7, %f7, -, H7⟩, ⟨%f8, %e8, H8⟩, ⟨%d9, %f9, -, H9⟩, ⟨%f10, %e10, H10⟩, Hk⟩
  have g8 : View.readAt (Elt F) M8.view (Rect.unit (s := S1x1) ![0, 0] S1x1.size inb_S1x1_S1x1_0_0).toLoadRect f8 = l := by rw [View.readAt_full, e8]
  have g10 : View.readAt (Elt F) M10.view (Rect.unit (s := S512x96) ![0, 0] S512x96.size inb_S512x96_S512x96_0_0).toLoadRect f10 = tb := by rw [View.readAt_full, e10]
  sl_exec
  sl_step
  iapply Hk
  isplitl [H7]
  · iexists _; isplitr; swap; · iexact H7
    ipureintro; rw [View.read_writes_full]
  isplitl [H8]
  · iexists _; isplitr; swap; · iexact H8
    ipureintro; rw [View.read_writes_full]
  isplitl [H9]
  · iexists _; isplitr; swap; · iexact H9
    ipureintro; rw [View.read_writes_full]
  iexists f10; isplitr; · ipureintro; exact e10
  iexact H10

/-- The first part of the body on staging buffers held whole. -/
theorem part1Run (c : Dev nD) (i : grid2.Coords)
    (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S2x1024x96 .f32) (h9 : M9.IsWhole)
    (M10 : Memref sig .tc .vmem S512x96 .f32) (h10 : M10.IsWhole)
    (X : S2x1024x96.Idx → Elt F .f32) (W : S96x32.Idx → Elt F .f32) (B : S1x32.Idx → Elt F .f32) (C : S512x32.Idx → Elt F .f32)
    (Wd : S32x96.Idx → Elt F .f32) (Bd : S1x96.Idx → Elt F .f32) (tb : S512x96.Idx → Elt F .f32)
    (E : Set ℕ) (Q : Mid F → sProp 𝕄) :
    iprop(owns (c : Thread nD τ) M1 fullShare X ∗ owns (c : Thread nD τ) M2 fullShare W ∗ owns (c : Thread nD τ) M3 fullShare B
        ∗ owns (c : Thread nD τ) M4 fullShare C ∗ owns (c : Thread nD τ) M5 fullShare Wd ∗ owns (c : Thread nD τ) M6 fullShare Bd
        ∗ owns (c : Thread nD τ) M10 fullShare tb
        ∗ (iprop(owns (c : Thread nD τ) M1 fullShare X ∗ owns (c : Thread nD τ) M2 fullShare W ∗ owns (c : Thread nD τ) M3 fullShare B
            ∗ owns (c : Thread nD τ) M4 fullShare C ∗ owns (c : Thread nD τ) M5 fullShare Wd ∗ owns (c : Thread nD τ) M6 fullShare Bd
            ∗ owns (c : Thread nD τ) M10 fullShare (if cnd i = 1#1 then tabv C Wd Bd else tb)) -∗ Q ⟨BitVec.ofNat 32 (i 0).val, k2_pay3 X W B, k2_pay4 C X W B, k2_pay11 C X W B, k2_pay12 C X W B, k2_pay13 C X W B, k2_pay14 C X W B⟩))
      ⊢ wp frame (wpE (defs₀ (F := F)) Variants.none c none) E (k2_part1 i M1 h1 M2 h2 M3 h3 M4 h4 M5 h5 M6 h6 M7 h7 M8 h8 M9 h9 M10 h10) Q := by
  rw [k2_part1_eq_skeleton]
  unfold k2_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f10, %e10, H10⟩, Hk⟩
  have g1 : View.readAt (Elt F) M1.view (Rect.unit (s := S2x1024x96) ![0, 0, 0] S2x1024x96.size inb_S2x1024x96_S2x1024x96_0_0_0).toLoadRect f1 = X := by rw [View.readAt_full, e1]
  have g2 : View.readAt (Elt F) M2.view (Rect.unit (s := S96x32) ![0, 0] S96x32.size inb_S96x32_S96x32_0_0).toLoadRect f2 = W := by rw [View.readAt_full, e2]
  have g3 : View.readAt (Elt F) M3.view (Rect.unit (s := S1x32) ![0, 0] S1x32.size inb_S1x32_S1x32_0_0).toLoadRect f3 = B := by rw [View.readAt_full, e3]
  have g4 : View.readAt (Elt F) M4.view (Rect.unit (s := S512x32) ![0, 0] S512x32.size inb_S512x32_S512x32_0_0).toLoadRect f4 = C := by rw [View.readAt_full, e4]
  have g5 : View.readAt (Elt F) M5.view (Rect.unit (s := S32x96) ![0, 0] S32x96.size inb_S32x96_S32x96_0_0).toLoadRect f5 = Wd := by rw [View.readAt_full, e5]
  have g6 : View.readAt (Elt F) M6.view (Rect.unit (s := S1x96) ![0, 0] S1x96.size inb_S1x96_S1x96_0_0).toLoadRect f6 = Bd := by rw [View.readAt_full, e6]
  by_cases hc : cnd i = 1#1
  · rw [if_pos hc]
    unfold cnd at hc
    simp only [dif_pos hc]
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    iexists _; isplitr; swap; · iexact H10
    ipureintro; rw [View.read_writes_full]; rfl
  · rw [if_neg hc]
    unfold cnd at hc
    simp only [dif_neg hc]
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    iexists f10; isplitr; · ipureintro; exact e10
    iexact H10

/-- The body on staging buffers held whole. -/
theorem bodyRun (c : Dev nD) (i : grid2.Coords)
    (M1 : Memref sig .tc .vmem S2x1024x96 .f32) (h1 : M1.IsWhole) (M2 : Memref sig .tc .vmem S96x32 .f32) (h2 : M2.IsWhole)
    (M3 : Memref sig .tc .vmem S1x32 .f32) (h3 : M3.IsWhole) (M4 : Memref sig .tc .vmem S512x32 .f32) (h4 : M4.IsWhole)
    (M5 : Memref sig .tc .vmem S32x96 .f32) (h5 : M5.IsWhole) (M6 : Memref sig .tc .vmem S1x96 .f32) (h6 : M6.IsWhole)
    (M7 : Memref sig .tc .vmem S1x1x2048 .i32) (h7 : M7.IsWhole) (M8 : Memref sig .tc .vmem S1x1 .f32) (h8 : M8.IsWhole)
    (M9 : Memref sig .tc .vmem S2x1024x96 .f32) (h9 : M9.IsWhole)
    (M10 : Memref sig .tc .vmem S512x96 .f32) (h10 : M10.IsWhole)
    (X : S2x1024x96.Idx → Elt F .f32) (W : S96x32.Idx → Elt F .f32) (B : S1x32.Idx → Elt F .f32) (C : S512x32.Idx → Elt F .f32)
    (Wd : S32x96.Idx → Elt F .f32) (Bd : S1x96.Idx → Elt F .f32) (l : S1x1.Idx → Elt F .f32) (tb : S512x96.Idx → Elt F .f32)
    (E : Set ℕ) (Q : PUnit → sProp 𝕄) :
    iprop(owns (c : Thread nD τ) M1 fullShare X ∗ owns (c : Thread nD τ) M2 fullShare W ∗ owns (c : Thread nD τ) M3 fullShare B
        ∗ owns (c : Thread nD τ) M4 fullShare C ∗ owns (c : Thread nD τ) M5 fullShare Wd ∗ owns (c : Thread nD τ) M6 fullShare Bd
        ∗ (∃ d, owns (c : Thread nD τ) M7 fullShare d) ∗ owns (c : Thread nD τ) M8 fullShare l ∗ (∃ d, owns (c : Thread nD τ) M9 fullShare d)
        ∗ owns (c : Thread nD τ) M10 fullShare tb
        ∗ (iprop(owns (c : Thread nD τ) M1 fullShare X ∗ owns (c : Thread nD τ) M2 fullShare W ∗ owns (c : Thread nD τ) M3 fullShare B
            ∗ owns (c : Thread nD τ) M4 fullShare C ∗ owns (c : Thread nD τ) M5 fullShare Wd ∗ owns (c : Thread nD τ) M6 fullShare Bd
            ∗ owns (c : Thread nD τ) M7 fullShare (qv C X W B)
            ∗ owns (c : Thread nD τ) M8 fullShare (lossv C X W B (BitVec.ofNat 32 (i 0).val) l)
            ∗ owns (c : Thread nD τ) M9 fullShare (recov C X W B (if cnd i = 1#1 then tabv C Wd Bd else tb))
            ∗ owns (c : Thread nD τ) M10 fullShare (if cnd i = 1#1 then tabv C Wd Bd else tb)) -∗ Q ⟨⟩))
      ⊢ wp frame (wpE (defs₀ (F := F)) Variants.none c none) E (cc2__tc_body_dec i M1 h1 M2 h2 M3 h3 M4 h4 M5 h5 M6 h6 M7 h7 M8 h8 M9 h9 M10 h10) Q := by
  rw [body_eq, wp_bind]
  iintro ⟨H1, H2, H3, H4, H5, H6, H7, H8, H9, H10, Hk⟩
  iapply (part1Run c i M1 h1 M2 h2 M3 h3 M4 h4 M5 h5 M6 h6 M7 h7 M8 h8 M9 h9 M10 h10 X W B C Wd Bd tb E _)
  isplitl [H1]; · iexact H1
  isplitl [H2]; · iexact H2
  isplitl [H3]; · iexact H3
  isplitl [H4]; · iexact H4
  isplitl [H5]; · iexact H5
  isplitl [H6]; · iexact H6
  isplitl [H10]; · iexact H10
  iintro ⟨H1, H2, H3, H4, H5, H6, H10⟩
  iapply (restRun c M7 M8 M9 M10 _ l _ E Q)
  isplitl [H7]; · iexact H7
  isplitl [H8]; · iexact H8
  isplitl [H9]; · iexact H9
  isplitl [H10]; · iexact H10
  iintro ⟨H7, H8, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Vq.R2

end
-- ==== Proof.Region2.lean ====
/-
  The second TensorCore call as a step of the program: what its staging buffers hold at each grid point, and what its
  arrays hold after it.
-/
module

public import proofs.«01_k».proof.Proof.Body2

@[expose] public section

noncomputable section

namespace Cert.Vq.R2

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V Vp : Vals F) (O : Dev nD → CellTallies nD τ sig (HIx 1)) (b : ℕ)

/-- The block of input window `w` at point `t`. -/
abbrev stg (c : Dev nD) (w : Fin 9) (t : Fin cfg2.N) : ((cfg2.win w).xblock (cfg2.grid.coords t)).Idx → Elt F (cfg2.win w).elt :=
  ((cfg2.win w).blk t).view.read (Elt F) (V c (Pipeline.arrRef spec2 w))

/-- Point `n` of the grid. -/
def pt (n : ℕ) : Fin cfg2.N := ⟨n % cfg2.N, Nat.mod_lt _ (by decide)⟩

theorem pt_val (t : Fin cfg2.N) : pt t.val = t := Fin.ext (Nat.mod_eq_of_lt t.isLt)

abbrev gX (c : Dev nD) (t : Fin cfg2.N) : S2x1024x96.Idx → Elt F .f32 := stg V c 0 t
abbrev gW (c : Dev nD) (t : Fin cfg2.N) : S96x32.Idx → Elt F .f32 := stg V c 1 t
abbrev gB (c : Dev nD) (t : Fin cfg2.N) : S1x32.Idx → Elt F .f32 := stg V c 2 t
abbrev gC (c : Dev nD) (t : Fin cfg2.N) : S512x32.Idx → Elt F .f32 := stg V c 3 t
abbrev gWd (c : Dev nD) (t : Fin cfg2.N) : S32x96.Idx → Elt F .f32 := stg V c 4 t
abbrev gBd (c : Dev nD) (t : Fin cfg2.N) : S1x96.Idx → Elt F .f32 := stg V c 5 t

/-- The grid coordinate of point `t`, as the body reads it. -/
abbrev co (t : Fin cfg2.N) : BitVec 32 := BitVec.ofNat 32 (grid2.coords t 0).val

/-- The loss after point `n`: what the body stores over the loss before it. -/
def acc (c : Dev nD) : ℕ → S1x1.Idx → Elt F .f32
  | 0 => lossv (gC V c (pt 0)) (gX V c (pt 0)) (gW V c (pt 0)) (gB V c (pt 0)) (co (pt 0)) fun _ => Scalar.ofBits .f32 0x00000000#32
  | n + 1 => lossv (gC V c (pt (n + 1))) (gX V c (pt (n + 1))) (gW V c (pt (n + 1))) (gB V c (pt (n + 1))) (co (pt (n + 1))) (acc c n)

/-- The table the body computes at the first point. -/
def tab (c : Dev nD) := tabv (gC V c (pt 0)) (gWd V c (pt 0)) (gBd V c (pt 0))

/-- The invariant before point `n`: the scoped buffers the pipeline does not stage, the scratch among them at the table
    once the first point has been run. -/
def Φc (c : Dev nD) (n : ℕ) : sProp 𝕄 :=
  iprop(Pipeline.scopedRestBut (Ix := HIx 1) (Name := ℕ) (U := UU) (Lvl := ℕ) (Val := Elt F) spec2 c [cc2_scratch0]
    ∗ ∃ f : Buf (Elt F) ((c : Thread nD τ).loc cc2_scratch0), ⌜n ≠ 0 → f = tab V c⌝ ∗ owns (c : Thread nD τ) (Memref.whole cc2_scratch0) fullShare f)

theorem scoped_split (c : Dev nD) :
    (Pipeline.scopedRest (Ix := HIx 1) (Name := ℕ) (U := UU) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := HIx 1) (Name := ℕ) (U := UU) (Lvl := ℕ) (Val := Elt F) spec2 c [cc2_scratch0]) :=
  Pipeline.scopedRest_split_of_list spec2 c [cc2_scratch0] (by decide) (by decide)

/-- The region's proof data. -/
def dat (c : Dev nD) : Dat τ (Elt F) (HIx 1) ℕ UU ℕ cfg2 c where
  A w := V c (Pipeline.arrRef spec2 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => qv (gC V c t) (gX V c t) (gW V c t) (gB V c t)
    | ⟨7, _⟩ => acc V c t.val
    | ⟨8, _⟩ => recov (gC V c t) (gX V c t) (gW V c t) (gB V c t) (tab V c)
  Φ t := Φc V c t.val
  q _ := fullShare
  owed _ := O c
  recorded _ := recd (F := F) b c

/-- The family of proof data over the three pipelines. -/
def pdats : (p : Fin 3) → (c : Dev nD) → Dat τ (Elt F) (HIx 1) ℕ UU ℕ (Pipeline.pin (pcfgs (F := F)) adm p) c
  | ⟨0, _⟩ => fun c => junkDat c
  | ⟨1, _⟩ => fun c => dat V O b c
  | ⟨2, _⟩ => fun c => junkDat c

theorem before_0 (c : Dev nD) (t : Fin cfg2.N) (d : (cfg2.win 0).block.Idx → Elt F (cfg2.win 0).elt) : (dat V O b c).before 0 t d = stg V c 0 t :=
  ((dat V O b c).before_in_eq_fetched 0 rfl (fun _ => rfl) (fun _ _ _ => rfl) (fun _ => rfl) t d).trans rfl

theorem before_1 (c : Dev nD) (t : Fin cfg2.N) (d : (cfg2.win 1).block.Idx → Elt F (cfg2.win 1).elt) : (dat V O b c).before 1 t d = stg V c 1 t :=
  ((dat V O b c).before_in_eq_fetched 1 rfl (fun _ => rfl) (fun _ _ _ => rfl) (fun _ => rfl) t d).trans rfl

theorem before_2 (c : Dev nD) (t : Fin cfg2.N) (d : (cfg2.win 2).block.Idx → Elt F (cfg2.win 2).elt) : (dat V O b c).before 2 t d = stg V c 2 t :=
  ((dat V O b c).before_in_eq_fetched 2 rfl (fun _ => rfl) (fun _ _ _ => rfl) (fun _ => rfl) t d).trans rfl

theorem before_3 (c : Dev nD) (t : Fin cfg2.N) (d : (cfg2.win 3).block.Idx → Elt F (cfg2.win 3).elt) : (dat V O b c).before 3 t d = stg V c 3 t :=
  ((dat V O b c).before_in_eq_fetched 3 rfl (fun _ => rfl) (fun _ _ _ => rfl) (fun _ => rfl) t d).trans rfl

theorem before_4 (c : Dev nD) (t : Fin cfg2.N) (d : (cfg2.win 4).block.Idx → Elt F (cfg2.win 4).elt) : (dat V O b c).before 4 t d = stg V c 4 t :=
  ((dat V O b c).before_in_eq_fetched 4 rfl (fun _ => rfl) (fun _ _ _ => rfl) (fun _ => rfl) t d).trans rfl

theorem before_5 (c : Dev nD) (t : Fin cfg2.N) (d : (cfg2.win 5).block.Idx → Elt F (cfg2.win 5).elt) : (dat V O b c).before 5 t d = stg V c 5 t :=
  ((dat V O b c).before_in_eq_fetched 5 rfl (fun _ => rfl) (fun _ _ _ => rfl) (fun _ => rfl) t d).trans rfl

theorem lossv_zero (C : Vec F S512x32 .f32) (X : Vec F S2x1024x96 .f32) (W : Vec F S96x32 .f32) (B : Vec F S1x32 .f32) (l l' : S1x1.Idx → Elt F .f32) :
    lossv C X W B 0#32 l = lossv C X W B 0#32 l' := rfl

/-- The loss the body stores at `t`, whatever the buffer holds at the first point. -/
theorem loss_eq (c : Dev nD) (t : Fin cfg2.N) (d : S1x1.Idx → Elt F .f32) :
    lossv (gC V c t) (gX V c t) (gW V c t) (gB V c t) (co t) ((dat V O b c).before 7 t d) = acc V c t.val := by
  obtain ⟨n, hn⟩ := t
  cases n with
  | zero =>
    have e : pt 0 = ⟨0, hn⟩ := rfl
    have e2 : co ⟨0, hn⟩ = 0#32 := by revert hn; decide +kernel
    show lossv _ _ _ _ _ _ = lossv _ _ _ _ _ _
    rw [e, e2]; exact lossv_zero (F := F) (gC V c ⟨0, hn⟩) (gX V c ⟨0, hn⟩) (gW V c ⟨0, hn⟩) (gB V c ⟨0, hn⟩) _ _
  | succ n =>
    rw [(dat V O b c).before_out_kept 7 rfl ⟨n + 1, hn⟩ (Nat.succ_ne_zero n)
      (by rw [Bool.eq_false_iff]; intro h; have := (flush2_7 _).mp h; simp only [Nat.add_sub_cancel] at this; have h2 : n + 1 < 28 := hn; omega)
      (fun _ => rfl) (fun _ _ => rfl) d]
    have e : pt (n + 1) = ⟨n + 1, hn⟩ := pt_val ⟨n + 1, hn⟩
    show _ = lossv _ _ _ _ _ _
    rw [e]; rfl

attribute [local irreducible] acc qv recov

theorem cond_iff : ∀ t : Fin cfg2.N, cnd (grid2.coords t) = 1#1 ↔ t.val = 0 := by decide +kernel

theorem defs₀_row (t : Fin cfg2.N) : defs₀ (F := F) .tc cfg2.body (cfg2.bodyArgs t (cfg2.slots t)) = bodyAt2 t := rfl

theorem body_obligation (c : Dev nD) : BodyObligation (dat V O b c) (defs₀ (F := F)) 𝒱₀ none Set.univ := fun t => by
  rw [bigSep_W2, bigSep_W2, defs₀_row]
  rw [show (dat V O b c).Φ t.castSucc = Φc V c t.val from rfl, show (dat V O b c).Φ t.succ = Φc V c (t.val + 1) from rfl,
    show (dat V O b c).owesAt none t.succ = (dat V O b c).owesAt none t.castSucc from rfl]
  unfold Φc
  iintro ⟨⟨HΦ, %f, %hf, Hs⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5]
  have e7 := loss_eq V O b c t d7
  generalize (dat V O b c).before 7 t d7 = l at e7 ⊢
  have e : (if cnd (grid2.coords t) = 1#1 then tabv (gC V c t) (gWd V c t) (gBd V c t) else f) = tab V c := by
    by_cases hc : cnd (grid2.coords t) = 1#1
    · have ht : t = pt 0 := Fin.ext ((cond_iff t).mp hc)
      rw [if_pos hc, ht]; rfl
    · rw [if_neg hc]; exact hf fun h => hc ((cond_iff t).mpr h)
  iapply (bodyRun (F := F) c (grid2.coords t) _ _ _ _ _ _ _ _ _ _ _ _ _ _ _ _ _ _ _ _ (gX V c t) (gW V c t) (gB V c t) (gC V c t) (gWd V c t) (gBd V c t)
    l f Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [Hs]; · iexact Hs
  rw [e7, e]
  iintro ⟨H0, H1, H2, H3, H4, H5, H6, H7, H8, Hs⟩
  isplitl [HΦ Hs]
  · isplitl [HΦ]; · iexact HΦ
    iexists _; isplitr; swap; · iexact Hs
    ipureintro; intro _; rfl
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [show (dat V O b c).after 7 t = acc V c t.val from rfl]
    iexact H7
  iexact H8

/-- Array `main_v5_0` after the region. -/
def resQ (c : Dev nD) : Buf (Elt F) ((c : Thread nD τ).loc main_v5_0) := (dat V O b c).arrAt 6 cfg2.N

/-- Array `main_v5_1` after the region. -/
def resL (c : Dev nD) : Buf (Elt F) ((c : Thread nD τ).loc main_v5_1) := (dat V O b c).arrAt 7 cfg2.N

/-- Array `main_v5_2` after the region. -/
def resT (c : Dev nD) : Buf (Elt F) ((c : Thread nD τ).loc main_v5_2) := (dat V O b c).arrAt 8 cfg2.N

set_option backward.isDefEq.respectTransparency.types false in
/-- The region over the thread state "every unscoped buffer at `V c`, the core owing `O`". -/
def reg (hO : ∀ c g, O c g none = 0) (hVq : ∀ c, Vp c main_v5_0 = resQ V O b c) (hVl : ∀ c, Vp c main_v5_1 = resL V O b c)
    (hVt : ∀ c, Vp c main_v5_2 = resT V O b c)
    (hVp_ne : ∀ c (r : Ref sig .tc), r ≠ main_v5_0 → r ≠ main_v5_1 → r ≠ main_v5_2 → Vp c r = V c r) :
    Pipeline.RegionSeg (pcfgs (F := F)) adm (pdats V O b) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V O b c).loose
  hwaits c := Pipeline.cellsWaits_intro _ _ _ _ _ fun _ _ _ => (K (F := F)).mayWait_none _ (hO c)
  pre c := iprop(unscopedBufs c (V c) ∗ owedSt (F := F) O b c)
  post c := iprop(unscopedBufs c (Vp c) ∗ owedSt (F := F) O b c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V O b) launch2.win launch2.arr_whole c
      ((pdats V O b 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owedSt_owesAt (F := F) O b c (dat V O b c) 0 rfl rfl); iexact HO
    isplitr; · iempintro
    iexact Hrest
  hin c := by
    rw [show (pdats V O b 1 c).Φ 0 = Φc V c 0 from rfl]
    iintro ⟨-, -, Hr⟩
    ihave Hr' := (Entails.of_eq (scoped_split (F := F) c)) $$ Hr
    icases Hr' with ⟨⟨%f, Hs⟩, Hr⟩
    unfold Φc
    isplitl [Hr]; · iexact Hr
    iexists f; isplitr
    · ipureintro; intro h; exact absurd rfl h
    rw [owns_whole]; iexact Hs
  hout c := by
    rw [Pipeline.ownSems0_none, show (pdats V O b 1 c).Φ (Fin.last _) = Φc V c cfg2.N from rfl]
    unfold Φc
    simp only [owns_whole]
    iintro ⟨Hr, %f, -, Hs⟩
    isplitr; · iempintro
    isplitr; · iempintro
    iapply (Entails.of_eq (scoped_split (F := F) c).symm)
    isplitl [Hs]
    · iexists f; iexact Hs
    iexact Hr
  hexit c := by
    have hjoin := Pipeline.unscopedBufs_of_arrays (p := 1) (pcfgs (F := F)) adm (Ix := HIx 1) (Name := ℕ) (U := UU) (Lvl := ℕ) launch2.win launch2.arr_whole c
      (pdats V O b) ((pdats V O b 1 c).share_full fun _ => rfl) (V c) (Vp c) ((pdats V O b 1 c).arrAt · cfg2.N)
      (fun w => by
        fin_cases w
        · exact ((pdats V O b 1 c).arrAt_in 0 rfl _).trans (hVp_ne c main_arg0 (by decide) (by decide) (by decide)).symm
        · exact ((pdats V O b 1 c).arrAt_in 1 rfl _).trans (hVp_ne c main_arg1 (by decide) (by decide) (by decide)).symm
        · exact ((pdats V O b 1 c).arrAt_in 2 rfl _).trans (hVp_ne c main_v0 (by decide) (by decide) (by decide)).symm
        · exact ((pdats V O b 1 c).arrAt_in 3 rfl _).trans (hVp_ne c main_arg3 (by decide) (by decide) (by decide)).symm
        · exact ((pdats V O b 1 c).arrAt_in 4 rfl _).trans (hVp_ne c main_arg4 (by decide) (by decide) (by decide)).symm
        · exact ((pdats V O b 1 c).arrAt_in 5 rfl _).trans (hVp_ne c main_v1 (by decide) (by decide) (by decide)).symm
        · exact (hVq c).symm
        · exact (hVl c).symm
        · exact (hVt c).symm)
      (fun r hr => hVp_ne c r (fun h => hr (h ▸ Finset.mem_image.mpr ⟨6, Finset.mem_univ _, rfl⟩)) (fun h => hr (h ▸ Finset.mem_image.mpr ⟨7, Finset.mem_univ _, rfl⟩))
        (fun h => hr (h ▸ Finset.mem_image.mpr ⟨8, Finset.mem_univ _, rfl⟩)))
    iintro ⟨Ha, HO, -, Hrest⟩
    imodintro
    isplitl [Ha Hrest]
    · iapply hjoin; isplitl [Ha] <;> iassumption
    iapply (owesAt_owedSt (F := F) O b c (dat V O b c) (Fin.last _) rfl rfl); iexact HO

end Cert.Vq.R2

end
-- ==== Proof.Region3.lean ====
/-
  The third TensorCore call: it copies the gathered rows, the first 96 of their 128 columns, into the last blocks of
  the result's array.
-/
module

public import proofs.«01_k».proof.Proof.Common

@[expose] public section

noncomputable section

namespace Cert.Vq.R3

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The rectangle the body loads: the first 96 columns of a block of gathered rows. -/
abbrev rIn : Rect S4x1024x128 := Rect.unit (s := S4x1024x128) ![0, 0, 0] S4x1024x96.size inb_S4x1024x128_S4x1024x96_0_0_0

/-- What the body stores for the block `X` of gathered rows. -/
def out (X : S4x1024x128.Idx → Elt F .f32) : S4x1024x96.Idx → Elt F .f32 := k3_pay1 (F := F) (fun x => X (rIn.emb x))

/-- The body on staging buffers held whole. -/
theorem bodyRun (c : Dev nD) (i : grid3.Coords) (M0 : Memref sig .tc .vmem S4x1024x128 .f32) (h0 : M0.IsWhole)
    (MA : Memref sig .tc .hbm S64x1024x96 .f32) (hA : MA.IsWhole) (M1 : Memref sig .tc .vmem S4x1024x96 .f32) (h1 : M1.IsWhole)
    (X0 : S4x1024x128.Idx → Elt F .f32) (E : Set ℕ) (Q : PUnit → sProp 𝕄) :
    iprop(owns (c : Thread nD τ) M0 fullShare X0 ∗ (∃ d, owns (c : Thread nD τ) M1 fullShare d)
        ∗ (iprop(owns (c : Thread nD τ) M0 fullShare X0 ∗ owns (c : Thread nD τ) M1 fullShare (out X0)) -∗ Q ⟨⟩))
      ⊢ wp frame (wpE (defs₀ (F := F)) Variants.none c none) E (cc3__slice_alias_body i M0 h0 MA hA M1 h1) Q := by
  rw [cc3__slice_alias_body_eq_skeleton]; unfold cc3__slice_alias_body_skel
  unfold owns
  iintro ⟨⟨%f0, %e0, H0⟩, ⟨%d1, %f1, -, H1⟩, Hk⟩
  sl_exec
  sl_step
  iapply Hk
  isplitl [H0]
  · iexists f0; isplitr; · ipureintro; exact e0
    iexact H0
  iexists _; isplitr; swap; · iexact H1
  ipureintro
  subst e0
  rw [View.read_writes_full]
  rfl

variable (V Vp : Vals F) (O : Dev nD → CellTallies nD τ sig (HIx 1)) (b : ℕ)

/-- The block of gathered rows at point `t`. -/
abbrev stg (c : Dev nD) (t : Fin cfg3.N) : (cfg3.win 0).block.Idx → Elt F (cfg3.win 0).elt :=
  ((cfg3.win 0).blk t).view.read (Elt F) (V c main_v4)

/-- The invariant: the scoped buffers the pipeline does not stage. -/
abbrev Φc (c : Dev nD) : sProp 𝕄 := Pipeline.scopedRest (Ix := HIx 1) (Name := ℕ) (U := UU) (Lvl := ℕ) (Val := Elt F) spec3 c

/-- The region's proof data: the gathered block as fetched, the result's block as the body leaves it. -/
def dat (c : Dev nD) : Dat τ (Elt F) (HIx 1) ℕ UU ℕ cfg3 c where
  A w := V c (Pipeline.arrRef spec3 w)
  after w t := match w with
    | ⟨0, _⟩ => stg V c t
    | ⟨1, _⟩ => out (F := F) (stg V c t)
  Φ _ := Φc c
  q _ := fullShare
  owed _ := O c
  recorded _ := recd (F := F) b c

/-- The family of proof data over the three pipelines. -/
def pdats : (p : Fin 3) → (c : Dev nD) → Dat τ (Elt F) (HIx 1) ℕ UU ℕ (Pipeline.pin (pcfgs (F := F)) adm p) c
  | ⟨0, _⟩ => fun c => junkDat c
  | ⟨1, _⟩ => fun c => junkDat c
  | ⟨2, _⟩ => fun c => dat V O b c

theorem before_in (c : Dev nD) (t : Fin cfg3.N) (d : (cfg3.win 0).block.Idx → Elt F (cfg3.win 0).elt) :
    (dat V O b c).before 0 t d = stg V c t := by
  unfold Dat.before; rw [if_pos (fetch3_0 t)]; rfl

theorem defs₀_row (t : Fin cfg3.N) : defs₀ (F := F) .tc cfg3.body (cfg3.bodyArgs t (cfg3.slots t)) = bodyAt3 t := rfl

theorem body_obligation (c : Dev nD) : BodyObligation (dat V O b c) (defs₀ (F := F)) 𝒱₀ none Set.univ := fun t => by
  rw [bigSep_W3, bigSep_W3, defs₀_row]
  rw [show (dat V O b c).Φ t.castSucc = Φc c from rfl, show (dat V O b c).Φ t.succ = Φc c from rfl,
    show (dat V O b c).owesAt none t.succ = (dat V O b c).owesAt none t.castSucc from rfl]
  iintro ⟨HΦ, Howes, ⟨%d0, H0⟩, ⟨%d1, H1⟩⟩
  rw [before_in]
  iapply (bodyRun (F := F) c (grid3.coords t) _ _ _ _ _ _ (stg V c t) Set.univ _)
  isplitl [H0]; · iexact H0
  isplitl [H1]; · iexists _; iexact H1
  iintro ⟨H0, H1⟩
  isplitl [HΦ]; · iexact HΦ
  isplitl [Howes]; · iexact Howes
  isplitl [H0]; · iexact H0
  iexact H1

/-- The result's array after the region: the write-backs of the two blocks. -/
def res (c : Dev nD) : Buf (Elt F) ((c : Thread nD τ).loc main_v6) := (dat V O b c).arrAt 1 cfg3.N

set_option backward.isDefEq.respectTransparency.types false in
/-- The region over the thread state "every unscoped buffer at `V c`, the core owing `O`". -/
def reg (hO : ∀ c g, O c g none = 0) (hVp_out : ∀ c, Vp c main_v6 = res V O b c)
    (hVp_ne : ∀ c (r : Ref sig .tc), r ≠ main_v6 → Vp c r = V c r) :
    Pipeline.RegionSeg (pcfgs (F := F)) adm (pdats V O b) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation V O b c).loose
  hwaits c := Pipeline.cellsWaits_intro _ _ _ _ _ fun _ _ _ => (K (F := F)).mayWait_none _ (hO c)
  pre c := iprop(unscopedBufs c (V c) ∗ owedSt (F := F) O b c)
  post c := iprop(unscopedBufs c (Vp c) ∗ owedSt (F := F) O b c)
  X _ := BI.emp
  Y _ := BI.emp
  Z c := Pipeline.unscopedRest (Ix := HIx 1) (Name := ℕ) (U := UU) (Lvl := ℕ) spec3 c (V c)
  hentry c := by
    rw [Pipeline.ownSems0_none]
    have hsplit := Pipeline.arrays_of_unscopedBufs (p := 2) (pcfgs (F := F)) adm (pdats V O b) launch3.win launch3.arr_whole c
      ((pdats V O b 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owedSt_owesAt (F := F) O b c (dat V O b c) 0 rfl rfl); iexact HO
    isplitr; · iempintro
    iexact Hrest
  hin c := by
    rw [show (pdats V O b 2 c).Φ 0 = Φc c from rfl]
    iintro ⟨-, -, Hr⟩; iexact Hr
  hout c := by
    rw [Pipeline.ownSems0_none, show (pdats V O b 2 c).Φ (Fin.last _) = Φc c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) launch3.win launch3.arr_whole c
      (pdats V O b) ((pdats V O b 2 c).share_full fun _ => rfl) (V c) (Vp c) ((pdats V O b 2 c).arrAt · cfg3.N)
      (fun w => by
        fin_cases w
        · exact ((pdats V O b 2 c).arrAt_in 0 rfl _).trans (hVp_ne c main_v4 (by decide)).symm
        · exact (hVp_out c).symm)
      (fun r hr => hVp_ne c r fun h => hr (h ▸ Finset.mem_image.mpr ⟨1, Finset.mem_univ _, rfl⟩))
    iintro ⟨Ha, HO, -, Hrest⟩
    imodintro
    isplitl [Ha Hrest]
    · iapply hjoin; isplitl [Ha] <;> iassumption
    iapply (owesAt_owedSt (F := F) O b c (dat V O b c) (Fin.last _) rfl rfl); iexact HO

end Cert.Vq.R3

end
-- ==== Proof.Main.lean ====
/-
  The host program on the TensorCore: the contents of its arrays after each of its operations, its run, and the program's.
-/
module

public import proofs.«01_k».proof.Proof.TileRun
public import proofs.«01_k».proof.Proof.Region0
public import proofs.«01_k».proof.Proof.Region2
public import proofs.«01_k».proof.Proof.Region3

@[expose] public section

noncomputable section

namespace Cert.Vq

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.ShloMosaic.StableHlo (held held_congr held_sub_split wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the arrays hold after each operation -/

section Values

/-- The operations of the host program. -/
abbrev op1 : HloOp τ sig (Elt F) := StableHlo.reshape main_arg2 main_v0 (rfl : (.f32 : EltTy) = .f32) shapeCasts_S32_S1x32
abbrev op2 : HloOp τ sig (Elt F) := StableHlo.reshape main_arg5 main_v1 (rfl : (.f32 : EltTy) = .f32) shapeCasts_S96_S1x96
abbrev op4 : HloOp τ sig (Elt F) := StableHlo.reshape main_v2_0 main_v3 (rfl : (.i32 : EltTy) = .i32) shapeCasts_S4x1x2048_S32x2x128
abbrev op7 : HloOp τ sig (Elt F) := StableHlo.unary main_v5_2 main_v6 id
abbrev op9 : HloOp τ sig (Elt F) := StableHlo.binary main_v5_0 main_v2_0 main_v7 ((fun a b => concatenate S32x1x2048 0 [⟨S28x1x2048, a⟩, ⟨S4x1x2048, b⟩] concatenates_S28x1x2048_S4x1x2048_S32x1x2048_d0) : (⟨S28x1x2048, .i32⟩ : BufTy).Contents (Elt F) → (⟨S4x1x2048, .i32⟩ : BufTy).Contents (Elt F) → (⟨S32x1x2048, .i32⟩ : BufTy).Contents (Elt F))
abbrev op10 : HloOp τ sig (Elt F) := StableHlo.reshape main_v7 main_v8 (rfl : (.i32 : EltTy) = .i32) shapeCasts_S32x1x2048_S64x1024
abbrev op11 : HloOp τ sig (Elt F) := StableHlo.reshape main_v5_1 main_v9 (rfl : (.f32 : EltTy) = .f32) shapeCasts_S1x1_S_
abbrev op12 : HloOp τ sig (Elt F) := StableHlo.reshape main_v2_1 main_v10 (rfl : (.f32 : EltTy) = .f32) shapeCasts_S1x1_S_
abbrev op13 : HloOp τ sig (Elt F) := StableHlo.binary main_v9 main_v10 main_v11 (addf : (⟨S_, .f32⟩ : BufTy).Contents (Elt F) → (⟨S_, .f32⟩ : BufTy).Contents (Elt F) → (⟨S_, .f32⟩ : BufTy).Contents (Elt F))
abbrev op14 : HloOp τ sig (Elt F) := StableHlo.nullary main_cst (constant S_ .f32 0x4A000000#32)
abbrev op15 : HloOp τ sig (Elt F) := StableHlo.binary main_v11 main_cst main_v12 (Host.divf : (⟨S_, .f32⟩ : BufTy).Contents (Elt F) → (⟨S_, .f32⟩ : BufTy).Contents (Elt F) → (⟨S_, .f32⟩ : BufTy).Contents (Elt F))
abbrev op16 : HloOp τ sig (Elt F) := StableHlo.reshape main_v12 main_v13 (rfl : (.f32 : EltTy) = .f32) shapeCasts_S_S_

variable (m : (ℓ : Loc nD τ sig) → Buf (Elt F) ℓ)

/-- What core `d`'s TensorCore owes before the gather is called, and after. -/
abbrev O0 : Dev nD → CellTallies nD τ sig (HIx 1) := fun d => (K (F := F)).Otc d 0
abbrev O1 : Dev nD → CellTallies nD τ sig (HIx 1) := fun d => (K (F := F)).Otc d 1

/-- The bound on the levels of the waits it has recorded before call `n`. -/
abbrev bnd (n : ℕ) : ℕ := 8 * (inferInstance : SparseCore.Cfg.Blocks 1 1).fst n

/-- A valuation read at the TensorCore's references. -/
abbrev vals (W : Dev nD → Valuation τ sig (Elt F)) : Vals F := fun c b => W c b

def W0 (d : Dev nD) : Valuation τ sig (Elt F) := fun b => m (d, b)
def W1 (d : Dev nD) : Valuation τ sig (Elt F) := op1.result (W0 m d)
def W2 (d : Dev nD) : Valuation τ sig (Elt F) := op2.result (W1 m d)
def W3 (d : Dev nD) : Valuation τ sig (Elt F) :=
  Function.update (Function.update (Function.update (W2 m d)
    (Proc.devRef .tc main_v2_0) (R0.resQ (vals (W2 m)) (O0 (F := F)) (bnd 0) d))
    (Proc.devRef .tc main_v2_1) (R0.resL (vals (W2 m)) (O0 (F := F)) (bnd 0) d))
    (Proc.devRef .tc main_v2_2) (R0.resT (vals (W2 m)) (O0 (F := F)) (bnd 0) d)
def W4 (d : Dev nD) : Valuation τ sig (Elt F) := op4.result (W3 m d)
def W5 (d : Dev nD) : Valuation τ sig (Elt F) :=
  Function.update (W4 m d) (Proc.devRef .tc main_v4) (Sc.res (vals (W4 m)) d)
def W6 (d : Dev nD) : Valuation τ sig (Elt F) :=
  Function.update (Function.update (Function.update (W5 m d)
    (Proc.devRef .tc main_v5_0) (R2.resQ (vals (W5 m)) (O1 (F := F)) (bnd 1) d))
    (Proc.devRef .tc main_v5_1) (R2.resL (vals (W5 m)) (O1 (F := F)) (bnd 1) d))
    (Proc.devRef .tc main_v5_2) (R2.resT (vals (W5 m)) (O1 (F := F)) (bnd 1) d)
def W7 (d : Dev nD) : Valuation τ sig (Elt F) := op7.result (W6 m d)
def W8 (d : Dev nD) : Valuation τ sig (Elt F) :=
  Function.update (W7 m d) (Proc.devRef .tc main_v6) (R3.res (vals (W7 m)) (O1 (F := F)) (bnd 1) d)
def W9 (d : Dev nD) : Valuation τ sig (Elt F) := op9.result (W8 m d)
def W10 (d : Dev nD) : Valuation τ sig (Elt F) := op10.result (W9 m d)
def W11 (d : Dev nD) : Valuation τ sig (Elt F) := op11.result (W10 m d)
def W12 (d : Dev nD) : Valuation τ sig (Elt F) := op12.result (W11 m d)
def W13 (d : Dev nD) : Valuation τ sig (Elt F) := op13.result (W12 m d)
def W14 (d : Dev nD) : Valuation τ sig (Elt F) := op14.result (W13 m d)
def W15 (d : Dev nD) : Valuation τ sig (Elt F) := op15.result (W14 m d)
def W16 (d : Dev nD) : Valuation τ sig (Elt F) := op16.result (W15 m d)

/-- An updated valuation at another reference. -/
theorem upd_ne (W : Valuation τ sig (Elt F)) {r s : Ref sig .tc} (h : r ≠ s) (v : (Proc.devRef (τ := τ) .tc s).ty.Contents (Elt F)) :
    Function.update W (Proc.devRef .tc s) v (Proc.devRef .tc r) = W (Proc.devRef .tc r) :=
  Function.update_of_ne (fun e => h (Proc.devRef_injective _ e)) _ _

end Values

/-! ## One operation's step -/

section Steps

variable (d : Dev nD)

theorem mem_ucRefs (r : Ref sig .tc) (h : r.isScoped = false) : Proc.devRef .tc r ∈ ucRefs :=
  Finset.mem_filter.mpr ⟨StableHlo.devRef_mem_tcRefs r, by rw [show (Proc.devRef (τ := τ) .tc r).isScoped = r.isScoped from rfl, h]; decide⟩

theorem sub_ucRefs (op : HloOp τ sig (Elt F)) (h : op.bufs ⊆ StableHlo.tcRefs τ sig) : op.bufs ⊆ ucRefs :=
  fun b hb => Finset.mem_filter.mpr ⟨h hb, by rw [op.no_scoped b hb]; decide⟩

/-- A host operation: the arrays pass to its result. -/
theorem step_hlo (op : HloOp τ sig (Elt F)) (hS : op.bufs ⊆ StableHlo.tcRefs τ sig) (hf : op.fresh = ∅) (W : Valuation τ sig (Elt F))
    (Q : PUnit → sProp 𝕄) :
    iprop(boundary (T d) ∗ held (T d) ucRefs W)
      ⊢ iprop(((boundary (T d) ∗ held (T d) ucRefs (op.result W)) -∗ Q ⟨⟩)
        -∗ wp frame (wpE ((K (F := F)).defs (D (F := F))) 𝒱 (T d) none) Set.univ (hlo rfl op fun _ => .ret ⟨⟩) Q) := by
  iintro ⟨Hb, Hh⟩ Hk
  iapply (wp_hlo_within 𝒱 (T d) none Set.univ (op := op) (S := ucRefs) (sub_ucRefs op hS) (V := W) hf) $$ [Hb Hh]
  · isplitl [Hb] <;> iassumption
  iintro H
  simp only [wp_ret]
  imodintro
  iapply Hk; iexact H

theorem Otc_none (n : ℕ) (d : Dev nD) (g : GSem nD τ sig) : (K (F := F)).Otc (N := 1) d n g none = 0 := by
  by_contra h
  have := SparseCore.Cfg.lev_of_Otc_pos (K := K (F := F)) (N := 1) (Nat.pos_of_ne_zero h)
  rw [SparseCore.Cfg.lev_none] at this
  exact absurd this (by omega)

variable [∀ e, Nonempty (Elt F e)]

/-- A region's call: the arrays pass to what the region leaves. -/
theorem step_reg (V : Vals F) {p : Fin 3} (pd : (p : Fin 3) → (c : Dev nD) → Dat τ (Elt F) (HIx 1) ℕ UU ℕ (Pipeline.pin (pcfgs (F := F)) adm p) c)
    (R : Pipeline.RegionSeg (pcfgs (F := F)) adm pd none defs₀ 𝒱₀ (K (F := F)).L (K (F := F)).lev p) (n : ℕ) (W W' : Valuation τ sig (Elt F))
    (hpre : R.pre d = iprop(unscopedBufs d (fun b => W b) ∗ owedSt (F := F) (fun d => (K (F := F)).Otc d n) (bnd n) d))
    (hpost : R.post d = iprop(unscopedBufs d (fun b => W' b) ∗ owedSt (F := F) (fun d => (K (F := F)).Otc d n) (bnd n) d))
    (κ : GSem nD τ sig → ℕ) (Q : PUnit → sProp 𝕄) :
    iprop((K (F := F)).ctx EH (Sc.P V) κ ∗ (K (F := F)).tcSt EH d n ∗ boundary (T d) ∗ held (T d) ucRefs W
        ∗ Pipeline.cellsGhost (Pipeline.pin (pcfgs (F := F)) adm) EP p d ∗ Pipeline.toksInit (Pipeline.pin (pcfgs (F := F)) adm) EP p d)
      ⊢ iprop((((K (F := F)).tcSt EH d n ∗ boundary (T d) ∗ held (T d) ucRefs W') -∗ Q ⟨⟩)
        -∗ wp frame (wpE ((K (F := F)).defs (D (F := F))) 𝒱 (T d) none) Set.univ
            (Prog.lift (.customCall (SparseCore.inner (Pipeline.entry p)) ())) Q) := by
  obtain ⟨Rst, hst⟩ : ∃ Rst : sProp 𝕄, (K (F := F)).tcSt EH d n = iprop(owedSt (F := F) (fun d => (K (F := F)).Otc d n) (bnd n) d ∗ Rst) := ⟨_, rfl⟩
  have hlift : (Prog.lift (.customCall (SparseCore.inner (Pipeline.entry p)) ())
      : Prog (TpuEff nD τ sig (Elt F) (SparseCore.Sig (ΛP (F := F)) 1) .tc) PUnit)
      = SparseCore.liftProg (Prog.lift (.customCall (Pipeline.entry p) ())) := rfl
  rw [hst, hlift, ← unscopedBufs_held, ← unscopedBufs_held]
  iintro ⟨#Hctx, ⟨HO, HR⟩, Hb, Hub, Hg, Ht⟩ Hk
  ihave Hlv := (SparseCore.Cfg.ctx_levAts κ) $$ Hctx
  iapply ((K (F := F)).wp_liftProg (D (F := F)) 𝒱 (T d) Set.univ none _ _)
  iapply (Pipeline.RegionSeg.wp (pcfgs (F := F)) adm pd none cellOf_inj EP defs₀ 𝒱₀ (K (F := F)).L (K (F := F)).lev R d none (fun _ h => nomatch h) _ _)
  rw [hpre, hpost]
  isplitl [HR Hk]
  · iintro ⟨Hb, Hub, HO⟩
    simp only [wp_ret]
    imodintro
    iapply Hk
    isplitl [HO HR]
    · isplitl [HO] <;> iassumption
    isplitl [Hb] <;> iassumption
  isplitl [Hb]; · iexact Hb
  isplitl [Hub HO]
  · isplitl [Hub] <;> iassumption
  isplitl [Hlv]; · iexact Hlv
  isplitl [Hg] <;> iassumption

/-- The gather's call: the result's rows pass to the gathered ones. -/
theorem step_sc (W : Dev nD → Valuation τ sig (Elt F)) (κ : GSem nD τ sig → ℕ) (Q : PUnit → sProp 𝕄) :
    iprop((K (F := F)).ctx EH (Sc.P (vals W)) κ ∗ (K (F := F)).tcSt EH d 0 ∗ held (T d) ucRefs (W d))
      ⊢ iprop((((K (F := F)).tcSt EH d 1 ∗ held (T d) ucRefs (Function.update (W d) (Proc.devRef .tc main_v4) (Sc.res (vals W) d))) -∗ Q ⟨⟩)
        -∗ wp frame (wpE ((K (F := F)).defs (D (F := F))) 𝒱 (T d) none) Set.univ ((K (F := F)).run d 0) Q) := by
  have hsub : ({Proc.devRef .tc main_v3, Proc.devRef .tc main_v2_2, Proc.devRef .tc main_v4} : Finset (DevRef τ sig)) ⊆ ucRefs := by
    intro b hb
    simp only [Finset.mem_insert, Finset.mem_singleton] at hb
    rcases hb with rfl | rfl | rfl <;> exact mem_ucRefs _ rfl
  have h1 : (Proc.devRef (τ := τ) .tc main_v3) ∉ ({Proc.devRef .tc main_v2_2, Proc.devRef .tc main_v4} : Finset (DevRef τ sig)) := by
    simp only [Finset.mem_insert, Finset.mem_singleton, not_or]
    exact ⟨fun e => absurd (Proc.devRef_injective _ e) (show (main_v3 : Ref sig .tc) ≠ main_v2_2 by decide),
      fun e => absurd (Proc.devRef_injective _ e) (show (main_v3 : Ref sig .tc) ≠ main_v4 by decide)⟩
  have h2 : (Proc.devRef (τ := τ) .tc main_v2_2) ∉ ({Proc.devRef .tc main_v4} : Finset (DevRef τ sig)) := by
    simp only [Finset.mem_singleton]
    exact fun e => absurd (Proc.devRef_injective _ e) (show (main_v2_2 : Ref sig .tc) ≠ main_v4 by decide)
  have hheld : ∀ U : Valuation τ sig (Elt F), (held (T d) {Proc.devRef .tc main_v3, Proc.devRef .tc main_v2_2, Proc.devRef .tc main_v4} U : sProp 𝕄)
      = iprop((Sc.iLoc d ↦{fullShare} U (Proc.devRef .tc main_v3)) ∗ (Sc.tLoc d ↦{fullShare} U (Proc.devRef .tc main_v2_2)) ∗ Sc.oLoc d ↦{fullShare} U (Proc.devRef .tc main_v4)) := by
    intro U
    unfold StableHlo.held
    rw [SparseCore.bigSep_insert' h1, SparseCore.bigSep_insert' h2, bigSep_singleton]
  have hrest : (held (T d) (ucRefs \ {Proc.devRef .tc main_v3, Proc.devRef .tc main_v2_2, Proc.devRef .tc main_v4}) (W d) : sProp 𝕄)
      = held (T d) (ucRefs \ {Proc.devRef .tc main_v3, Proc.devRef .tc main_v2_2, Proc.devRef .tc main_v4})
        (Function.update (W d) (Proc.devRef .tc main_v4) (Sc.res (vals W) d)) :=
    held_congr _ fun b hb => (Function.update_of_ne (fun e => (Finset.mem_sdiff.mp hb).2 (by rw [e]; simp)) _ _).symm
  rw [held_sub_split _ hsub (W d), held_sub_split _ hsub (Function.update _ _ _), hheld, hheld, hrest, Function.update_self,
    upd_ne _ (show (main_v3 : Ref sig .tc) ≠ main_v4 by decide), upd_ne _ (show (main_v2_2 : Ref sig .tc) ≠ main_v4 by decide)]
  iintro ⟨#Hctx, Hst, ⟨Hi, Ht, Ho⟩, Hrest⟩ Hk
  iapply ((K (F := F)).wp_run (D (F := F)) 𝒱 (EH := EH) (P := Sc.P (vals W)) κ d 0) $$ [Hst Hi Ht Ho Hrest Hk]
  isplitr; · iexact Hctx
  isplitl [Hst]; · iexact Hst
  rw [Sc.st_eq, Sc.dn_eq]
  isplitl [Hi Ht Ho]
  · isplitl [Hi]; · iexact Hi
    isplitl [Ht]; · iexact Ht
    iexact Ho
  iintro ⟨Hst, Hi, Ht, Ho⟩
  iapply Hk
  isplitl [Hst]; · iexact Hst
  isplitr [Hrest]
  · isplitl [Hi]; · iexact Hi
    isplitl [Ht]; · iexact Ht
    iexact Ho
  iexact Hrest

end Steps

/-! ## The launch element of the ghost state -/

section Launch

variable (V : Vals F)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- A device's ghost state of the three pipelines. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Sc.P V).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G; rw [bigSep_sep']
    isplitl [Hg] <;> iassumption
  rw [show (bigSep Finset.univ fun thr : Thread nD τ => bigSep Finset.univ fun q : Fin 1 => (Sc.P V).x q thr) = (bigSep Finset.univ fun _ => iprop(emp) : sProp 𝕄) from
    bigSep_congr fun _ _ => bigSep_univ_of_subsingleton (0 : Fin 1), bigSep_emp']
  iempintro

theorem bigSep_pipes (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide), bigSep_singleton]

end Launch

/-! ## @main on the TensorCore -/

section Run

variable (m : (ℓ : Loc nD τ sig) → Buf (Elt F) ℓ) (ρ : Dev nD → PrngReg)

/-- The three regions at the contents they find and leave. -/
abbrev reg0 := R0.reg (vals (W2 m)) (vals (W3 m)) (O0 (F := F)) (bnd 0) (fun d g => Otc_none 0 d g)
  (fun c => by unfold vals W3; rw [upd_ne _ (by decide), upd_ne _ (by decide)]; exact Function.update_self _ _ _)
  (fun c => by unfold vals W3; rw [upd_ne _ (by decide)]; exact Function.update_self _ _ _)
  (fun c => by unfold vals W3; exact Function.update_self _ _ _)
  (fun c r h0 h1 h2 => by unfold vals W3; rw [upd_ne _ h2, upd_ne _ h1, upd_ne _ h0])
abbrev reg2 := R2.reg (vals (W5 m)) (vals (W6 m)) (O1 (F := F)) (bnd 1) (fun d g => Otc_none 1 d g)
  (fun c => by unfold vals W6; rw [upd_ne _ (by decide), upd_ne _ (by decide)]; exact Function.update_self _ _ _)
  (fun c => by unfold vals W6; rw [upd_ne _ (by decide)]; exact Function.update_self _ _ _)
  (fun c => by unfold vals W6; exact Function.update_self _ _ _)
  (fun c r h0 h1 h2 => by unfold vals W6; rw [upd_ne _ h2, upd_ne _ h1, upd_ne _ h0])
abbrev reg3 := R3.reg (vals (W7 m)) (vals (W8 m)) (O1 (F := F)) (bnd 1) (fun d g => Otc_none 1 d g)
  (fun c => by unfold vals W8; exact Function.update_self _ _ _)
  (fun c r h => by unfold vals W8; rw [upd_ne _ h])

variable [∀ e, Nonempty (Elt F e)]

/-- The arrays at the end. -/
abbrev FIN (d : Dev nD) : sProp 𝕄 := held (T d) ucRefs (W16 m d)

theorem hmain (κ : GSem nD τ sig → ℕ) (d : Dev nD) :
    iprop((K (F := F)).ctx EH (Sc.P (vals (W4 m))) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  unfold G
  have hW : (fun b : Ref sig .tc => m ((T d : Thread nD τ).loc b)) = fun b : Ref sig .tc => W0 m d b := rfl
  rw [bigSep_pipes, bigSep_pipes, hW, unscopedBufs_held]
  simp only [main, wp_bind, wp_pure]
  iintro ⟨#Hctx, Hst, ⟨Hb, Hh, Hts, -⟩, ⟨Hg0, Hg1, Hg2⟩, ⟨Ht0, Ht1, Ht2⟩⟩
  iapply (step_hlo d op1 (by simp) rfl (W0 m d) _) $$ [Hb Hh]
  · isplitl [Hb] <;> iassumption
  iintro ⟨Hb, Hh⟩
  iapply (step_hlo d op2 (by simp) rfl (W1 m d) _) $$ [Hb Hh]
  · isplitl [Hb]; · iexact Hb
    iexact Hh
  iintro ⟨Hb, Hh⟩
  iapply (step_reg d (vals (W4 m)) _ (reg0 m) 0 (W2 m d) (W3 m d) rfl rfl κ _) $$ [Hst Hb Hh Hg0 Ht0]
  · isplitr; · iexact Hctx
    isplitl [Hst]; · iexact Hst
    isplitl [Hb]; · iexact Hb
    isplitl [Hh]; · iexact Hh
    isplitl [Hg0] <;> iassumption
  iintro ⟨Hst, Hb, Hh⟩
  iapply (step_hlo d op4 (by simp) rfl (W3 m d) _) $$ [Hb Hh]
  · isplitl [Hb] <;> iassumption
  iintro ⟨Hb, Hh⟩
  iapply (step_sc d (W4 m) κ _) $$ [Hst Hh]
  · isplitr; · iexact Hctx
    isplitl [Hst]; · iexact Hst
    iexact Hh
  iintro ⟨Hst, Hh⟩
  iapply (step_reg d (vals (W4 m)) _ (reg2 m) 1 (W5 m d) (W6 m d) rfl rfl κ _) $$ [Hst Hb Hh Hg1 Ht1]
  · isplitr; · iexact Hctx
    isplitl [Hst]; · iexact Hst
    isplitl [Hb]; · iexact Hb
    isplitl [Hh]; · iexact Hh
    isplitl [Hg1] <;> iassumption
  iintro ⟨Hst, Hb, Hh⟩
  iapply (step_hlo d op7 (by simp) rfl (W6 m d) _) $$ [Hb Hh]
  · isplitl [Hb] <;> iassumption
  iintro ⟨Hb, Hh⟩
  iapply (step_reg d (vals (W4 m)) _ (reg3 m) 1 (W7 m d) (W8 m d) rfl rfl κ _) $$ [Hst Hb Hh Hg2 Ht2]
  · isplitr; · iexact Hctx
    isplitl [Hst]; · iexact Hst
    isplitl [Hb]; · iexact Hb
    isplitl [Hh]; · iexact Hh
    isplitl [Hg2] <;> iassumption
  iintro ⟨Hst, Hb, Hh⟩
  iapply (step_hlo d op9 (by simp) rfl (W8 m d) _) $$ [Hb Hh]
  · isplitl [Hb] <;> iassumption
  iintro ⟨Hb, Hh⟩
  iapply (step_hlo d op10 (by simp) rfl (W9 m d) _) $$ [Hb Hh]
  · isplitl [Hb]; · iexact Hb
    iexact Hh
  iintro ⟨Hb, Hh⟩
  iapply (step_hlo d op11 (by simp) rfl (W10 m d) _) $$ [Hb Hh]
  · isplitl [Hb]; · iexact Hb
    iexact Hh
  iintro ⟨Hb, Hh⟩
  iapply (step_hlo d op12 (by simp) rfl (W11 m d) _) $$ [Hb Hh]
  · isplitl [Hb]; · iexact Hb
    iexact Hh
  iintro ⟨Hb, Hh⟩
  iapply (step_hlo d op13 (by simp) rfl (W12 m d) _) $$ [Hb Hh]
  · isplitl [Hb]; · iexact Hb
    iexact Hh
  iintro ⟨Hb, Hh⟩
  iapply (step_hlo d op14 (by simp) rfl (W13 m d) _) $$ [Hb Hh]
  · isplitl [Hb]; · iexact Hb
    iexact Hh
  iintro ⟨Hb, Hh⟩
  iapply (step_hlo d op15 (by simp) rfl (W14 m d) _) $$ [Hb Hh]
  · isplitl [Hb]; · iexact Hb
    iexact Hh
  iintro ⟨Hb, Hh⟩
  iapply (step_hlo d op16 (by simp) rfl (W15 m d) _) $$ [Hb Hh]
  · isplitl [Hb]; · iexact Hb
    iexact Hh
  iintro ⟨Hb, Hh⟩
  imodintro
  isplitl [Hst]; · iexact Hst
  isplitl [Hh]; · iexact Hh
  isplitl [Hb] <;> iassumption

/-- At the end every array of @main holds what the last valuation says. -/
def fq (d : Dev nD) (s' : Phys nD τ sig (Elt F)) : Prop := ∀ b ∈ ucRefs, s'.mem.mem (d, b) = W16 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  iapply (SI_pointsTo_bufs_agree (st := s') (c := d) (qs := fun _ => fullShare) (F := W16 m d) ucRefs)
  isplitl [HSI]; · iexact HSI
  iexact Hh

/-- Every run ends, every array of @main as the last valuation says and every counter at zero, where the words the
    gather reads are row numbers of the table. -/
theorem run_main (hI : ∀ d, Sc.InRange (vals (W4 m) d main_v3)) :
    θ_run (Cert.KernelIdeal.defs (F := F)) (Cert.KernelIdeal.threads (F := F)) ⟨m, fun _ => 0, ρ⟩
      fun r => (∀ d, ∀ b ∈ ucRefs, r.2.mem (d, b) = W16 m d b) ∧ r.2.sem = fun _ => 0 :=
  SparseCore.Cfg.θ_run_sc_quiescent (K := K (F := F)) (D := D (F := F)) (𝒱 := 𝒱) (EH := EH) (P := Sc.P (vals (W4 m))) (A := ∅) facts v₀
    (fun q hq => match q with | 0 => nomatch hq)
    (fun q _ => match q with | 0 => Sc.tileObl (vals (W4 m)) hI)
    (fun q _ => match q with | 0 => SparseCore.Cfg.VecSplit.of_plain (Sc.vecSplit (vals (W4 m))))
    m ρ main (G (F := F)) (FIN m) (u₀ (F := F)) (sep_elim_left.trans (hu₀ (vals (W4 m)))) (hmain m ρ) (fq m) (hfin m) _ (fun _ h hz => ⟨h, hz⟩)

end Run

end Cert.Vq

end
-- ==== Proof.Chain.lean ====
/-
  The running maximum of the scores: the codes a block's body keeps, as one recursion over the 64 rows of eight.
-/
module

public import proofs.«01_k».proof.Proof.Body0
public import proofs.«01_k».proof.Proof.Body2

@[expose] public section

noncomputable section

namespace Cert.Vq

open Cert.KernelIdeal Cert.KernelIdeal.Gen
open Idealize.ShloMosaic

variable {F : FTy → Type} [FloatOps F]

theorem slices_row : ∀ j : Fin 64, S64x8x2048.Slices ![j.val, 0, 0] S1x8x2048 := by decide

/-- The eight scores of row `j`. -/
def sl (s : FVec F S64x8x2048 .f32) (j : ℕ) : FVec F S8x2048 .f32 :=
  shapeCast S8x2048 (extractStridedSlice S1x8x2048 ![(Fin.ofNat 64 j).val, 0, 0] s (slices_row (Fin.ofNat 64 j))) shapeCasts_S1x8x2048_S8x2048

/-- The best of rows `0 … j`. -/
def best (s : FVec F S64x8x2048 .f32) (j : ℕ) : FVec F S8x2048 .f32 :=
  Nat.rec (sl s 0) (fun j b => select (cmpf .ogt (sl s (j + 1)) b) (sl s (j + 1)) b) j

/-- The row it was found in. -/
def bj (s : FVec F S64x8x2048 .f32) (j : ℕ) : IVec S8x2048 32 :=
  Nat.rec (broadcast S8x2048 0#32) (fun j c => select (cmpf .ogt (sl s (j + 1)) (best s j)) (broadcast S8x2048 (BitVec.ofNat 32 (j + 1))) c) j

/-- The best score of each token. -/
def mx (s : FVec F S64x8x2048 .f32) : FVec F S2048 .f32 :=
  multiReduction .maximumf [0] S2048 (best s 63) 0xFF800000#32 reduces_S8x2048_S2048 (.inl rfl) rfl

/-- The number of the codeword each of the eight running maxima was found at. -/
def cidx (s : FVec F S64x8x2048 .f32) : IVec S8x2048 32 :=
  addi (muli (bj s 63) (broadcast S8x2048 8#32)) (iota .tc S8x2048 32 [0] iota_S8x2048_d0_w32)

/-- The code of each token. -/
def code (s : FVec F S64x8x2048 .f32) : IVec S2048 32 :=
  multiReductionI .minsi [0] S2048 (select (cmpf .oeq (best s 63) (broadcastTo S8x2048 (shapeCast S1x2048 (mx s) shapeCasts_S2048_S1x2048) broadcasts_S1x2048_S8x2048))
    (cidx s) (broadcast S8x2048 512#32)) 2147483647#32 reduces_S8x2048_S2048 rfl

/-- A block's loss added to the loss `l` before it, at grid coordinate `a`. -/
def lossOf (z : FVec F S2048x32 .f32) (m : FVec F S2048 .f32) (a : BitVec 32) (l : S1x1.Idx → Elt F .f32) : S1x1.Idx → Elt F .f32 :=
  addf (Scalar.select (Scalar.cmpi .eq a 0#32) (broadcast S1x1 (Scalar.ofBits .f32 0x00000000#32)) (shapeCast S1x1 l shapeCasts_S1x1_S1x1))
    (broadcast S1x1 (Scalar.subf
      (extractAt ![0, 0, 0] (shapeCast S1x1x1 (multiReduction .add [1, 2] S1 (shapeCast S1x2048x32 (mulf z z) shapeCasts_S2048x32_S1x2048x32) 0x00000000#32
        reduces_S1x2048x32_S1 (.inl rfl) rfl) shapeCasts_S1_S1x1x1) inpos_S1x1x1_p0_0_0)
      (extractAt ![0, 0] (shapeCast S1x1 (multiReduction .add [1] S1 (shapeCast S1x2048 m shapeCasts_S2048_S1x2048) 0x00000000#32
        reduces_S1x2048_S1 (.inl rfl) rfl) shapeCasts_S1_S1x1) inpos_S1x1_p0_0)))

/-- The rows of the table `tb` at the codes `q`. -/
def rowsOf (q : IVec S2048 32) (tb : Vec F S512x96 .f32) : FVec F S2048x96 .f32 :=
  matmul dot_S2048x512_S512x96_S2048x96_1_0_0_1_n_n none
    (select (cmpi .eq (iota .tc S2048x512 32 [1] iota_S2048x512_d1_w32) (broadcastTo S2048x512 (shapeCast S2048x1 q shapeCasts_S2048_S2048x1) broadcasts_S2048x1_S2048x512))
      (broadcast S2048x512 (Scalar.ofBits .f32 0x3F800000#32)) (broadcast S2048x512 (Scalar.ofBits .f32 0x00000000#32))) tb
    (constant S2048x96 .f32 0x00000000#32)

section
variable (C : Vec F S512x32 .f32) (X : Vec F S2x1024x96 .f32) (W : Vec F S96x32 .f32) (B : Vec F S1x32 .f32) (a : BitVec 32) (l : S1x1.Idx → Elt F .f32)
  (tb : Vec F S512x96 .f32)

theorem qv0_eq : R0.qv C X W B = shapeCast S1x1x2048 (code (k0_pay3 C X W B)) shapeCasts_S2048_S1x1x2048 := rfl
theorem lossv0_eq : R0.lossv C X W B a l = lossOf (k0_pay2 X W B) (mx (k0_pay3 C X W B)) a l := rfl
theorem qv2_eq : R2.qv C X W B = shapeCast S1x1x2048 (code (k0_pay3 C X W B)) shapeCasts_S2048_S1x1x2048 := rfl
theorem lossv2_eq : R2.lossv C X W B a l = lossOf (k0_pay2 X W B) (mx (k0_pay3 C X W B)) a l := rfl
theorem recov_eq : R2.recov C X W B tb = shapeCast S2x1024x96 (rowsOf (code (k0_pay3 C X W B)) tb) shapeCasts_S2048x96_S2x1024x96 := rfl
end

end Cert.Vq

end
-- ==== Proof.Blocks.lean ====
/-
  What the calls leave in their arrays, block by block, in terms of the arrays they read.
-/
module

public import proofs.«01_k».proof.Proof.Main
public import proofs.«01_k».proof.Proof.Chain
public import Idealize.ShloMosaic.Lib.ValueIdx
public import Idealize.ShloMosaic.Lib.ValueIdxRank1
public import Idealize.ShloMosaic.Lib.ValueLayout
public import Idealize.ShloMosaic.Lib.Pipeline.Value
public import Idealize.ShloMosaic.Lib.Pipeline.ValueKit.Partial

@[expose] public section

noncomputable section

namespace Cert.Vq

open Cert.KernelIdeal Cert.KernelIdeal.Gen
open Idealize.ShloMosaic Idealize.ShloMosaic.ValueIdx Idealize.ShloMosaic.TcCoe Idealize.ShloMosaic.SparseCore.Cfg

variable {F : FTy → Type} [FloatOps F]

/-- Two batches of `x`, the pair `n`. -/
def pair (x : S64x1024x96.Idx → Elt F .f32) (n : ℕ) : S2x1024x96.Idx → Elt F .f32 :=
  fun i => x (ix3 (Fin.ofNat 64 (2 * n + (i 0).val)) (i 1) (i 2))

section
variable (V : Vals F) (O : Dev nD → CellTallies nD τ sig (HIx 1)) (b : ℕ) (c : Dev nD)

/-- The scores of pair `n`. -/
def scores (n : ℕ) : FVec F S64x8x2048 .f32 := k0_pay3 (V c main_arg3) (pair (V c main_arg0) n) (V c main_arg1) (V c main_v0)

/-- The latents of pair `n`. -/
def lats (n : ℕ) : FVec F S2048x32 .f32 := k0_pay2 (pair (V c main_arg0) n) (V c main_arg1) (V c main_v0)

theorem index0_0 : ∀ t : Fin cfg0.N, win0_0.index t = ![28 + t.val, 0, 0] := by decide +kernel
theorem index0_6 : ∀ t : Fin cfg0.N, win0_6.index t = ![t.val, 0, 0] := by decide +kernel
theorem index2_0 : ∀ t : Fin cfg2.N, win2_0.index t = ![t.val, 0, 0] := by decide +kernel
theorem index2_6 : ∀ t : Fin cfg2.N, win2_6.index t = ![t.val, 0, 0] := by decide +kernel
theorem index2_8 : ∀ t : Fin cfg2.N, win2_8.index t = ![t.val, 0, 0] := by decide +kernel
theorem index3_0 : ∀ t : Fin cfg3.N, win3_0.index t = ![t.val, 0, 0] := by decide +kernel
theorem index3_1 : ∀ t : Fin cfg3.N, win3_1.index t = ![14 + t.val, 0, 0] := by decide +kernel

theorem gX0 (t : Fin cfg0.N) : R0.gX V c t = pair (V c main_arg0) (28 + t.val) := by
  funext i
  have ht : t.val < 4 := t.isLt
  unfold R0.gX R0.stg pair
  blk_simp
  refine congrArg _ (funext fun a => Fin.ext ?_)
  have h0 : (i 0).val < 2 := (i 0).isLt
  match a with
  | ⟨0, _⟩ => blk_simp; rw [index0_0]; show (28 + t.val) * 2 + (i 0).val = (2 * (28 + t.val) + (i 0).val) % 64; omega
  | ⟨1, _⟩ => blk_simp; rw [index0_0]; show 0 * 1024 + (i 1).val = (i 1).val; omega
  | ⟨2, _⟩ => blk_simp; rw [index0_0]; show 0 * 96 + (i 2).val = (i 2).val; omega

theorem gW0 (t : Fin cfg0.N) : R0.gW V c t = V c main_arg1 := by
  funext i
  unfold R0.gW R0.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gW2 (t : Fin cfg2.N) : R2.gW V c t = V c main_arg1 := by
  funext i
  unfold R2.gW R2.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gB0 (t : Fin cfg0.N) : R0.gB V c t = V c main_v0 := by
  funext i
  unfold R0.gB R0.stg
  blk_simp
  refine congrArg _ (funext fun a => Fin.ext ?_)
  match a with
  | ⟨0, _⟩ => blk_simp; rfl
  | ⟨1, _⟩ => blk_simp; show 0 * _ + (i 1).val = (i 1).val; omega

theorem gB2 (t : Fin cfg2.N) : R2.gB V c t = V c main_v0 := by
  funext i
  unfold R2.gB R2.stg
  blk_simp
  refine congrArg _ (funext fun a => Fin.ext ?_)
  match a with
  | ⟨0, _⟩ => blk_simp; rfl
  | ⟨1, _⟩ => blk_simp; show 0 * _ + (i 1).val = (i 1).val; omega

theorem gC0 (t : Fin cfg0.N) : R0.gC V c t = V c main_arg3 := by
  funext i
  unfold R0.gC R0.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gC2 (t : Fin cfg2.N) : R2.gC V c t = V c main_arg3 := by
  funext i
  unfold R2.gC R2.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gWd0 (t : Fin cfg0.N) : R0.gWd V c t = V c main_arg4 := by
  funext i
  unfold R0.gWd R0.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gWd2 (t : Fin cfg2.N) : R2.gWd V c t = V c main_arg4 := by
  funext i
  unfold R2.gWd R2.stg
  blk_simp
  refine congrArg _ (funext fun a => Fin.ext ?_)
  match a with
  | ⟨0, _⟩ => blk_simp; show 0 * _ + (i 0).val = (i 0).val; omega
  | ⟨1, _⟩ => blk_simp; show 0 * _ + (i 1).val = (i 1).val; omega

theorem gBd0 (t : Fin cfg0.N) : R0.gBd V c t = V c main_v1 := by
  funext i
  unfold R0.gBd R0.stg
  blk_simp
  refine congrArg _ (funext fun a => Fin.ext ?_)
  match a with
  | ⟨0, _⟩ => blk_simp; rfl
  | ⟨1, _⟩ => blk_simp; show 0 * _ + (i 1).val = (i 1).val; omega

theorem gBd2 (t : Fin cfg2.N) : R2.gBd V c t = V c main_v1 := by
  funext i
  unfold R2.gBd R2.stg
  blk_simp
  refine congrArg _ (funext fun a => Fin.ext ?_)
  match a with
  | ⟨0, _⟩ => blk_simp; rfl
  | ⟨1, _⟩ => blk_simp; show 0 * _ + (i 1).val = (i 1).val; omega

theorem gX2 (t : Fin cfg2.N) : R2.gX V c t = pair (V c main_arg0) t.val := by
  funext i
  have ht : t.val < 28 := t.isLt
  unfold R2.gX R2.stg pair
  blk_simp
  refine congrArg _ (funext fun a => Fin.ext ?_)
  have h0 : (i 0).val < 2 := (i 0).isLt
  match a with
  | ⟨0, _⟩ => blk_simp; rw [index2_0]; show t.val * 2 + (i 0).val = (2 * t.val + (i 0).val) % 64; omega
  | ⟨1, _⟩ => blk_simp; rw [index2_0]; show 0 * 1024 + (i 1).val = (i 1).val; omega
  | ⟨2, _⟩ => blk_simp; rw [index2_0]; show 0 * 96 + (i 2).val = (i 2).val; omega

attribute [local irreducible] R0.qv R2.qv R0.acc R2.acc R0.tab R2.tab R2.recov code scores pair

/-- The codes of the pairs `n`, `n + 1`, … -/
def codesFrom {k : ℕ} (n : ℕ) : (⟨3, ![k, 1, 2048]⟩ : Shape).Idx → BitVec 32 :=
  fun i => code (scores V c (n + (i 0).val)) (ix1 (i 2))

/-- A block of codes, read at a token. -/
theorem codes_read (q : IVec S2048 32) (y : S1x1x2048.Idx) : shapeCast S1x1x2048 q shapeCasts_S2048_S1x1x2048 y = q (ix1 (y 2)) := by
  refine shapeCast_apply _ _ _ _ ?_
  have h0 : (y 0).val < 1 := (y 0).isLt
  have h1 : (y 1).val < 1 := (y 1).isLt
  rw [Shape.rowMajor_val_one, Shape.rowMajor_val_three]
  show (y 2).val = ((y 0).val * 1 + (y 1).val) * 2048 + (y 2).val
  omega

theorem resQ0 : R0.resQ V O b c = codesFrom (k := 4) V c 28 := by
  refine (R0.dat V O b c).arrAt_eq_of_covers 6 _ (by decide +kernel) fun t hf y => ?_
  blk_simp
  show R0.qv (R0.gC V c t) (R0.gX V c t) (R0.gW V c t) (R0.gB V c t) y = _
  rw [gX0, gW0, gB0, gC0, qv0_eq, codes_read]
  have e0 : (((cfg0.win 6).blk t).view.emb y 0).val = t.val := by
    have h0 : (y 0).val < 1 := (y 0).isLt
    blk_simp; rw [index0_6]; show t.val = t.val; rfl
  have e2 : ((cfg0.win 6).blk t).view.emb y 2 = y 2 := by
    apply Fin.ext; blk_simp; rw [index0_6]; show 0 * 2048 + (y 2).val = _; omega
  show _ = code (scores V c (28 + (((cfg0.win 6).blk t).view.emb y 0).val)) (ix1 (((cfg0.win 6).blk t).view.emb y 2))
  rw [e0, e2]
  unfold scores; rfl

theorem resQ2 : R2.resQ V O b c = codesFrom (k := 28) V c 0 := by
  refine (R2.dat V O b c).arrAt_eq_of_covers 6 _ (by decide +kernel) fun t hf y => ?_
  blk_simp
  show R2.qv (R2.gC V c t) (R2.gX V c t) (R2.gW V c t) (R2.gB V c t) y = _
  rw [gX2, gW2, gB2, gC2, qv2_eq, codes_read]
  have e0 : (((cfg2.win 6).blk t).view.emb y 0).val = t.val := by
    have h0 : (y 0).val < 1 := (y 0).isLt
    blk_simp; rw [index2_6]; show t.val = t.val; rfl
  have e2 : ((cfg2.win 6).blk t).view.emb y 2 = y 2 := by
    apply Fin.ext; blk_simp; rw [index2_6]; show 0 * 2048 + (y 2).val = _; omega
  show _ = code (scores V c (0 + (((cfg2.win 6).blk t).view.emb y 0).val)) (ix1 (((cfg2.win 6).blk t).view.emb y 2))
  rw [e0, e2, Nat.zero_add]
  unfold scores; rfl

theorem resL0 : R0.resL V O b c = R0.acc V c 3 := by
  refine (R0.dat V O b c).arrAt_eq_of_after_last 7 (⟨3, by decide⟩ : Fin cfg0.N) (by decide +kernel) _ fun j => ?_
  blk_simp
  rfl

theorem resL2 : R2.resL V O b c = R2.acc V c 27 := by
  refine (R2.dat V O b c).arrAt_eq_of_after_last 7 (⟨27, by decide⟩ : Fin cfg2.N) (by decide +kernel) _ fun j => ?_
  blk_simp
  rfl

theorem resT0 : R0.resT V O b c = R0.tab V c := by
  refine (R0.dat V O b c).arrAt_eq_of_after_last 8 (⟨3, by decide⟩ : Fin cfg0.N) (by decide +kernel) _ fun j => ?_
  blk_simp
  rfl

/-- The reconstruction of a token of the pairs from the table `tb`. -/
def recs (tb : Vec F S512x96 .f32) : S64x1024x96.Idx → Elt F .f32 :=
  fun i => rowsOf (code (scores V c ((i 0).val / 2))) tb (ix2 (Fin.ofNat 2048 ((i 0).val % 2 * 1024 + (i 1).val)) (i 2))

attribute [local irreducible] rowsOf

/-- A block of reconstructions, read at a token and column. -/
theorem rows_read (v : FVec F S2048x96 .f32) (y : S2x1024x96.Idx) :
    shapeCast S2x1024x96 v shapeCasts_S2048x96_S2x1024x96 y = v (ix2 (Fin.ofNat 2048 ((y 0).val * 1024 + (y 1).val)) (y 2)) := by
  refine shapeCast_apply _ _ _ _ ?_
  have h0 : (y 0).val < 2 := (y 0).isLt
  have h1 : (y 1).val < 1024 := (y 1).isLt
  rw [Shape.rowMajor_val_two, Shape.rowMajor_val_three]
  show ((y 0).val * 1024 + (y 1).val) % 2048 * 96 + (y 2).val = ((y 0).val * 1024 + (y 1).val) * 96 + (y 2).val
  omega

theorem resT2 : R2.resT V O b c = fun i : S64x1024x96.Idx => if (i 0).val < 56 then recs V c (R2.tab V c) i else V c main_v5_2 i := by
  refine (R2.dat V O b c).arrAt_eq_of_coversWhere 8 _ (fun β => β (0 : Fin 3) < 28) (by decide +kernel) (fun t hf y => ?_) (fun j => ?_)
  · blk_simp
    show R2.recov (R2.gC V c t) (R2.gX V c t) (R2.gW V c t) (R2.gB V c t) (R2.tab V c) y = _
    rw [gX2, gW2, gB2, gC2, recov_eq, rows_read]
    have h0 : (y 0).val < 2 := (y 0).isLt
    have e0 : (((cfg2.win 8).blk t).view.emb y 0).val = 2 * t.val + (y 0).val := by
      blk_simp; rw [index2_8]; show t.val * 2 + (y 0).val = _; omega
    have e1 : ((cfg2.win 8).blk t).view.emb y 1 = y 1 := by
      apply Fin.ext; blk_simp; rw [index2_8]; show 0 * 1024 + (y 1).val = _; omega
    have e2 : ((cfg2.win 8).blk t).view.emb y 2 = y 2 := by
      apply Fin.ext; blk_simp; rw [index2_8]; show 0 * 96 + (y 2).val = _; omega
    show _ = rowsOf (code (scores V c ((((cfg2.win 8).blk t).view.emb y 0).val / 2))) (R2.tab V c)
      (ix2 (Fin.ofNat 2048 ((((cfg2.win 8).blk t).view.emb y 0).val % 2 * 1024 + (((cfg2.win 8).blk t).view.emb y 1).val)) (((cfg2.win 8).blk t).view.emb y 2))
    rw [e0, e1, e2, show (2 * t.val + (y 0).val) / 2 = t.val by omega, show (2 * t.val + (y 0).val) % 2 = (y 0).val by omega]
    unfold scores; rfl
  · show (j 0).val < 56 ↔ (j 0).val / 2 < 28
    omega

/-- The first 96 columns of the gathered rows, as the last eight batches. -/
def tailRows (G : S8x1024x128.Idx → Elt F .f32) : S64x1024x96.Idx → Elt F .f32 :=
  fun i => G (ix3 (Fin.ofNat 8 ((i 0).val - 56)) (i 1) (Fin.castLE (by decide : 96 ≤ 128) (i 2)))

theorem tailRows_of (G : S8x1024x128.Idx → Elt F .f32) (i : S64x1024x96.Idx) (j : S8x1024x128.Idx)
    (h0 : (j 0).val = (i 0).val - 56) (h1 : (j 1).val = (i 1).val) (h2 : (j 2).val = (i 2).val) : G j = tailRows G i := by
  refine congrArg G (funext fun a => Fin.ext ?_)
  have : (j 0).val < 8 := (j 0).isLt
  match a with
  | ⟨0, _⟩ => show (j 0).val = ((i 0).val - 56) % 8; omega
  | ⟨1, _⟩ => exact h1
  | ⟨2, _⟩ => exact h2

theorem res3 : R3.res V O b c = fun i : S64x1024x96.Idx => if 56 ≤ (i 0).val then tailRows (V c main_v4) i else V c main_v6 i := by
  refine (R3.dat V O b c).arrAt_eq_of_coversWhere 1 _ (fun β => 14 ≤ β (0 : Fin 3)) (by decide +kernel) (fun t hf y => ?_) (fun j => ?_)
  · blk_simp
    refine (congrFun (shapeCast_self (fun x => R3.stg V c t (R3.rIn.emb x)) shapeCasts_S4x1024x96_S4x1024x96) y).trans ?_
    have h0 : (y 0).val < 4 := (y 0).isLt
    have ht : t.val < 2 := t.isLt
    refine tailRows_of (V c main_v4) (((cfg3.win 1).blk t).view.emb y) (((cfg3.win 0).blk t).view.emb (R3.rIn.emb y)) ?_ ?_ ?_
    · blk_simp; rw [index3_0, index3_1]; show t.val * 4 + (y 0).val = (14 + t.val) * 4 + (y 0).val - 56; omega
    · blk_simp; rw [index3_0, index3_1]; show 0 * 1024 + (y 1).val = 0 * 1024 + (y 1).val; omega
    · blk_simp; rw [index3_0, index3_1]; show 0 * 128 + (y 2).val = 0 * 96 + (y 2).val; omega
  · show 56 ≤ (j 0).val ↔ 14 ≤ (j 0).val / 4
    omega

end

end Cert.Vq

end
-- ==== Proof.Reads.lean ====
/-
  The host program's arrays at its end, in terms of its arguments.
-/
module

public import proofs.«01_k».proof.Proof.Blocks

@[expose] public section

noncomputable section

namespace Cert.Vq

open Cert.KernelIdeal Cert.KernelIdeal.Gen
open Idealize.ShloMosaic Idealize.ShloMosaic.ValueIdx Idealize.ShloMosaic.TcCoe Idealize.ShloMosaic.SparseCore.Cfg

variable {F : FTy → Type} [FloatOps F] (m : (ℓ : Loc nD τ sig) → Buf (Elt F) ℓ) (d : Dev nD) {r : Ref sig .tc}

/-! ## What an operation leaves alone -/

theorem W1_ne (h : r ≠ main_v0) : W1 m d (Proc.devRef .tc r) = W0 m d (Proc.devRef .tc r) := by
  unfold W1; rw [StableHlo.reshape_result_ne]; exact h

theorem W2_ne (h : r ≠ main_v1) : W2 m d (Proc.devRef .tc r) = W1 m d (Proc.devRef .tc r) := by
  unfold W2; rw [StableHlo.reshape_result_ne]; exact h

theorem W3_ne (h : r ≠ main_v2_0 ∧ r ≠ main_v2_1 ∧ r ≠ main_v2_2) : W3 m d (Proc.devRef .tc r) = W2 m d (Proc.devRef .tc r) := by
  unfold W3; rw [upd_ne _ h.2.2, upd_ne _ h.2.1, upd_ne _ h.1]

theorem W4_ne (h : r ≠ main_v3) : W4 m d (Proc.devRef .tc r) = W3 m d (Proc.devRef .tc r) := by
  unfold W4; rw [StableHlo.reshape_result_ne]; exact h

theorem W5_ne (h : r ≠ main_v4) : W5 m d (Proc.devRef .tc r) = W4 m d (Proc.devRef .tc r) := by
  unfold W5; rw [upd_ne _ h]

theorem W6_ne (h : r ≠ main_v5_0 ∧ r ≠ main_v5_1 ∧ r ≠ main_v5_2) : W6 m d (Proc.devRef .tc r) = W5 m d (Proc.devRef .tc r) := by
  unfold W6; rw [upd_ne _ h.2.2, upd_ne _ h.2.1, upd_ne _ h.1]

theorem W7_ne (h : r ≠ main_v6) : W7 m d (Proc.devRef .tc r) = W6 m d (Proc.devRef .tc r) := by
  unfold W7; rw [StableHlo.unary_result_ne]; exact h

theorem W8_ne (h : r ≠ main_v6) : W8 m d (Proc.devRef .tc r) = W7 m d (Proc.devRef .tc r) := by
  unfold W8; rw [upd_ne _ h]

theorem W9_ne (h : r ≠ main_v7) : W9 m d (Proc.devRef .tc r) = W8 m d (Proc.devRef .tc r) := by
  unfold W9; rw [StableHlo.binary_result_ne]; exact h

theorem W10_ne (h : r ≠ main_v8) : W10 m d (Proc.devRef .tc r) = W9 m d (Proc.devRef .tc r) := by
  unfold W10; rw [StableHlo.reshape_result_ne]; exact h

theorem W11_ne (h : r ≠ main_v9) : W11 m d (Proc.devRef .tc r) = W10 m d (Proc.devRef .tc r) := by
  unfold W11; rw [StableHlo.reshape_result_ne]; exact h

theorem W12_ne (h : r ≠ main_v10) : W12 m d (Proc.devRef .tc r) = W11 m d (Proc.devRef .tc r) := by
  unfold W12; rw [StableHlo.reshape_result_ne]; exact h

theorem W13_ne (h : r ≠ main_v11) : W13 m d (Proc.devRef .tc r) = W12 m d (Proc.devRef .tc r) := by
  unfold W13; rw [StableHlo.binary_result_ne]; exact h

theorem W14_ne (h : r ≠ main_cst) : W14 m d (Proc.devRef .tc r) = W13 m d (Proc.devRef .tc r) := by
  unfold W14; rw [StableHlo.nullary_result_ne]; exact h

theorem W15_ne (h : r ≠ main_v12) : W15 m d (Proc.devRef .tc r) = W14 m d (Proc.devRef .tc r) := by
  unfold W15; rw [StableHlo.binary_result_ne]; exact h

theorem W16_ne (h : r ≠ main_v13) : W16 m d (Proc.devRef .tc r) = W15 m d (Proc.devRef .tc r) := by
  unfold W16; rw [StableHlo.reshape_result_ne]; exact h

/-- A reference that no operation up to the second call writes. -/
theorem W5_kept (h : r ≠ main_v2_0 ∧ r ≠ main_v2_1 ∧ r ≠ main_v2_2 ∧ r ≠ main_v3 ∧ r ≠ main_v4) :
    W5 m d (Proc.devRef .tc r) = W2 m d (Proc.devRef .tc r) := by
  obtain ⟨h0, h1, h2, h3, h4⟩ := h
  rw [W5_ne m d h4, W4_ne m d h3, W3_ne m d ⟨h0, h1, h2⟩]

/-- A reference that no operation after the last call writes. -/
theorem W16_kept (h : r ≠ main_v7 ∧ r ≠ main_v8 ∧ r ≠ main_v9 ∧ r ≠ main_v10 ∧ r ≠ main_v11 ∧ r ≠ main_cst ∧ r ≠ main_v12 ∧ r ≠ main_v13) :
    W16 m d (Proc.devRef .tc r) = W8 m d (Proc.devRef .tc r) := by
  obtain ⟨h7, h8, h9, h10, h11, hc, h12, h13⟩ := h
  rw [W16_ne m d h13, W15_ne m d h12, W14_ne m d hc, W13_ne m d h11, W12_ne m d h10, W11_ne m d h9, W10_ne m d h8, W9_ne m d h7]

/-- A reference that no operation between the calls writes. -/
theorem W8_kept (h : r ≠ main_v5_0 ∧ r ≠ main_v5_1 ∧ r ≠ main_v5_2 ∧ r ≠ main_v6) :
    W8 m d (Proc.devRef .tc r) = W5 m d (Proc.devRef .tc r) := by
  obtain ⟨h0, h1, h2, h6⟩ := h
  rw [W8_ne m d h6, W7_ne m d h6, W6_ne m d ⟨h0, h1, h2⟩]

/-- The arguments keep their contents. -/
theorem W16_arg (hr : r = main_arg0 ∨ r = main_arg1 ∨ r = main_arg2 ∨ r = main_arg3 ∨ r = main_arg4 ∨ r = main_arg5) :
    W16 m d (Proc.devRef .tc r) = m (d, Proc.devRef .tc r) := by
  rcases hr with rfl | rfl | rfl | rfl | rfl | rfl <;>
    exact (W16_kept m d (by decide)).trans ((W8_kept m d (by decide)).trans ((W5_kept m d (by decide)).trans
      ((W2_ne m d (by decide)).trans (W1_ne m d (by decide)))))

/-! ## The codes -/

theorem scores_kept (n : ℕ) : scores (vals (W5 m)) d n = scores (vals (W2 m)) d n := by
  unfold scores vals
  rw [W5_kept m d (by decide), W5_kept m d (by decide), W5_kept m d (by decide), W5_kept m d (by decide)]

theorem lats_kept (n : ℕ) : lats (vals (W5 m)) d n = lats (vals (W2 m)) d n := by
  unfold lats vals
  rw [W5_kept m d (by decide), W5_kept m d (by decide), W5_kept m d (by decide)]

/-- The codes the first call leaves. -/
theorem W3_codes : W3 m d (Proc.devRef .tc main_v2_0) = codesFrom (k := 4) (vals (W2 m)) d 28 := by
  unfold W3; rw [upd_ne _ (by decide), upd_ne _ (by decide)]
  exact (Function.update_self _ _ _).trans (resQ0 ..)

/-- The codes the gather reads. -/
theorem W4_codes : W4 m d (Proc.devRef .tc main_v3) = shapeCast S32x2x128 (codesFrom (k := 4) (vals (W2 m)) d 28) shapeCasts_S4x1x2048_S32x2x128 := by
  unfold W4; rw [StableHlo.reshape_result', W3_codes]; rfl

/-- The table the gather reads. -/
theorem W4_table : W4 m d (Proc.devRef .tc main_v2_2) = R0.tab (vals (W2 m)) d := by
  rw [W4_ne m d (by decide)]
  unfold W3
  exact (Function.update_self _ _ _).trans (resT0 ..)

/-- The gathered rows. -/
theorem W7_rows : W7 m d (Proc.devRef .tc main_v4)
    = Sc.gathered (R0.tab (vals (W2 m)) d) (shapeCast S32x2x128 (codesFrom (k := 4) (vals (W2 m)) d 28) shapeCasts_S4x1x2048_S32x2x128) := by
  rw [W7_ne m d (by decide), W6_ne m d (by decide)]
  unfold W5
  refine (Function.update_self _ _ _).trans ?_
  unfold Sc.res vals
  rw [W4_table, W4_codes]

theorem tab0_eq (V : Vals F) (c : Dev nD) : R0.tab V c = R0.tabv (V c main_arg3) (V c main_arg4) (V c main_v1) := by
  unfold R0.tab; rw [gC0, gWd0, gBd0]

theorem tab2_eq (V : Vals F) (c : Dev nD) : R2.tab V c = R2.tabv (V c main_arg3) (V c main_arg4) (V c main_v1) := by
  unfold R2.tab; rw [gC2, gWd2, gBd2]

theorem tab2_kept : R2.tab (vals (W5 m)) d = R2.tab (vals (W2 m)) d := by
  rw [tab2_eq, tab2_eq]
  unfold vals
  rw [W5_kept m d (by decide), W5_kept m d (by decide), W5_kept m d (by decide)]

theorem recs_kept (tb : Vec F S512x96 .f32) : recs (vals (W5 m)) d tb = recs (vals (W2 m)) d tb := by
  unfold recs; simp only [scores_kept]

/-- The reconstructions the second call leaves. -/
theorem W6_recs {i : S64x1024x96.Idx} (hi : (i 0).val < 56) :
    W6 m d (Proc.devRef .tc main_v5_2) i = recs (vals (W2 m)) d (R2.tab (vals (W2 m)) d) i := by
  have e : W6 m d (Proc.devRef .tc main_v5_2) = R2.resT (vals (W5 m)) (O1 (F := F)) (bnd 1) d := by
    unfold W6; exact Function.update_self _ _ _
  rw [e, resT2]; refine (if_pos hi).trans ?_; rw [recs_kept, tab2_kept]

/-- The reconstructions: of the first pairs the second call's, of the last the gathered rows. -/
theorem W16_recs : W16 m d (Proc.devRef .tc main_v6) = fun i : S64x1024x96.Idx => if 56 ≤ (i 0).val then
    tailRows (Sc.gathered (R0.tab (vals (W2 m)) d) (shapeCast S32x2x128 (codesFrom (k := 4) (vals (W2 m)) d 28) shapeCasts_S4x1x2048_S32x2x128)) i
    else recs (vals (W2 m)) d (R2.tab (vals (W2 m)) d) i := by
  rw [W16_kept m d (by decide)]
  have e : W8 m d (Proc.devRef .tc main_v6) = R3.res (vals (W7 m)) (O1 (F := F)) (bnd 1) d := by
    unfold W8; exact Function.update_self _ _ _
  have e7 : W7 m d (Proc.devRef .tc main_v6) = W6 m d (Proc.devRef .tc main_v5_2) := by
    unfold W7; rw [StableHlo.unary_result']; rfl
  rw [e, res3]
  funext i
  by_cases hi : 56 ≤ (i 0).val
  · rw [if_pos hi, if_pos hi]; unfold vals; rw [W7_rows]
  · rw [if_neg hi, if_neg hi]; unfold vals; rw [e7]; exact W6_recs m d (by omega)

/-- The codes of all the pairs. -/
theorem W16_codes : W16 m d (Proc.devRef .tc main_v8) = shapeCast S64x1024 (concatenate S32x1x2048 0
    [⟨S28x1x2048, codesFrom (k := 28) (vals (W2 m)) d 0⟩, ⟨S4x1x2048, codesFrom (k := 4) (vals (W2 m)) d 28⟩]
    concatenates_S28x1x2048_S4x1x2048_S32x1x2048_d0) shapeCasts_S32x1x2048_S64x1024 := by
  have e2 : W8 m d (Proc.devRef .tc main_v2_0) = codesFrom (k := 4) (vals (W2 m)) d 28 := by
    rw [W8_kept m d (by decide), W5_ne m d (by decide), W4_ne m d (by decide), W3_codes]
  have e5 : W8 m d (Proc.devRef .tc main_v5_0) = codesFrom (k := 28) (vals (W2 m)) d 0 := by
    rw [W8_ne m d (by decide), W7_ne m d (by decide)]
    unfold W6; rw [upd_ne _ (by decide), upd_ne _ (by decide)]
    refine (Function.update_self _ _ _).trans ((resQ2 ..).trans ?_)
    unfold codesFrom; simp only [scores_kept]
  rw [W16_ne m d (by decide), W15_ne m d (by decide), W14_ne m d (by decide), W13_ne m d (by decide), W12_ne m d (by decide), W11_ne m d (by decide)]
  unfold W10; rw [StableHlo.reshape_result']
  unfold W9; rw [StableHlo.binary_result', e2, e5]
  rfl

/-- The loss: what the two calls add up, over the number of the latents' entries. -/
theorem W16_loss : W16 m d (Proc.devRef .tc main_v13) = shapeCast S_ (Host.divf (F := F)
    (addf (shapeCast S_ (R2.acc (vals (W5 m)) d 27) shapeCasts_S1x1_S_) (shapeCast S_ (R0.acc (vals (W2 m)) d 3) shapeCasts_S1x1_S_))
    (constant S_ .f32 0x4A000000#32)) shapeCasts_S_S_ := by
  have e5 : W10 m d (Proc.devRef .tc main_v5_1) = R2.acc (vals (W5 m)) d 27 := by
    rw [W10_ne m d (by decide), W9_ne m d (by decide), W8_ne m d (by decide), W7_ne m d (by decide)]
    unfold W6; rw [upd_ne _ (by decide)]
    exact (Function.update_self _ _ _).trans (resL2 ..)
  have e2 : W11 m d (Proc.devRef .tc main_v2_1) = R0.acc (vals (W2 m)) d 3 := by
    rw [W11_ne m d (by decide), W10_ne m d (by decide), W9_ne m d (by decide), W8_kept m d (by decide), W5_ne m d (by decide), W4_ne m d (by decide)]
    unfold W3; rw [upd_ne _ (by decide)]
    exact (Function.update_self _ _ _).trans (resL0 ..)
  have e9 : W12 m d (Proc.devRef .tc main_v9) = shapeCast S_ (R2.acc (vals (W5 m)) d 27) shapeCasts_S1x1_S_ := by
    rw [W12_ne m d (by decide)]; unfold W11; rw [StableHlo.reshape_result', e5]; rfl
  have e10 : W12 m d (Proc.devRef .tc main_v10) = shapeCast S_ (R0.acc (vals (W2 m)) d 3) shapeCasts_S1x1_S_ := by
    unfold W12; rw [StableHlo.reshape_result', e2]; rfl
  have e11 : W14 m d (Proc.devRef .tc main_v11) = addf (shapeCast S_ (R2.acc (vals (W5 m)) d 27) shapeCasts_S1x1_S_) (shapeCast S_ (R0.acc (vals (W2 m)) d 3) shapeCasts_S1x1_S_) := by
    rw [W14_ne m d (by decide)]; unfold W13; rw [StableHlo.binary_result', e9, e10]
  have ec : W14 m d (Proc.devRef .tc main_cst) = constant S_ .f32 0x4A000000#32 := by
    unfold W14; rw [StableHlo.nullary_result']
  unfold W16; rw [StableHlo.reshape_result']
  unfold W15; rw [StableHlo.binary_result', e11, ec]
  rfl

end Cert.Vq

end
-- ==== Proof.Score.lean ====
/-
  The chain over the extended reals: what a block's body stores as a token's code is the lowest number of a codeword of
  highest score, and what it adds up for the loss is that score.
-/
module

public import proofs.«01_k».proof.Proof.Chain
public import Idealize.ShloMosaic.Lib.ValueIdx
public import Idealize.ShloMosaic.Lib.ValueIdxRank1
public import Idealize.ShloMosaic.Lib.ValueLayout
public import Idealize.ShloMosaic.Lib.Pipeline.Value
public import Idealize.ShloMosaic.PureOps.Ideal.Laws
public import Idealize.ShloMosaic.PureOps.Reduce

@[expose] public section

noncomputable section

namespace Cert.Vq

open Cert.KernelIdeal Cert.KernelIdeal.Gen
open Idealize.ShloMosaic Idealize.ShloMosaic.ValueIdx

/-- Row `j` of the scores, at its sublane and token. -/
theorem sl_apply {F : FTy → Type} (s : FVec F S64x8x2048 .f32) (j : Fin 64) (r : Fin 8) (t : Fin 2048) :
    sl s j.val (ix2 r t) = s (ix3 j r t) := by
  have e : Fin.ofNat 64 j.val = j := Fin.ext (Nat.mod_eq_of_lt j.isLt)
  unfold sl
  rw [shapeCast_1ab_ab_apply]
  refine extractStridedSlice_apply _ s _ _ _ fun a => ?_
  rw [show (Fin.ofNat 64 j.val).val = j.val from congrArg Fin.val e]
  match a with
  | ⟨0, _⟩ => rfl
  | ⟨1, _⟩ => exact (Nat.zero_add _).symm
  | ⟨2, _⟩ => exact (Nat.zero_add _).symm

/-- The lower of two words, signed. -/
theorem fold_minsi {n : ℕ} (v : Fin n → BitVec 32) (init : BitVec 32) (S : Finset (Fin n)) :
    (∀ i ∈ S, (S.fold IntOp.minsi init v).toInt ≤ (v i).toInt)
      ∧ (S.fold IntOp.minsi init v = init ∨ ∃ i ∈ S, S.fold IntOp.minsi init v = v i)
      ∧ (S.fold IntOp.minsi init v).toInt ≤ init.toInt := by
  induction S using Finset.induction with
  | empty => simp
  | insert a S ha ih =>
    obtain ⟨h1, h2, h3⟩ := ih
    rw [Finset.fold_insert ha]
    have hmin : ∀ x y : BitVec 32, (IntOp.minsi x y = x ∧ x.toInt ≤ y.toInt) ∨ (IntOp.minsi x y = y ∧ y.toInt ≤ x.toInt) := by
      intro x y
      unfold IntOp.minsi
      by_cases h : x.slt y
      · left; simp only [h, if_true, true_and]; simp only [BitVec.slt, decide_eq_true_eq] at h; omega
      · right
        simp only [BitVec.slt, decide_eq_true_eq] at h
        refine ⟨?_, by omega⟩
        simp only [BitVec.slt, decide_eq_true_eq, h, if_false]
    rcases hmin (v a) (S.fold IntOp.minsi init v) with ⟨e, hl⟩ | ⟨e, hl⟩ <;> rw [e]
    · refine ⟨fun i hi => ?_, .inr ⟨a, Finset.mem_insert_self a S, rfl⟩, by omega⟩
      rcases Finset.mem_insert.1 hi with rfl | hi
      · exact le_rfl
      · exact hl.trans (h1 i hi)
    · refine ⟨fun i hi => ?_, ?_, h3⟩
      · rcases Finset.mem_insert.1 hi with rfl | hi
        · exact hl
        · exact h1 i hi
      · rcases h2 with h | ⟨i, hi, h⟩
        · exact .inl h
        · exact .inr ⟨i, Finset.mem_insert_of_mem hi, h⟩

/-- The running maximum: the first row, of those seen, that attains the largest score. -/
theorem best_spec (s : FVec Ideal S64x8x2048 .f32) (r : Fin 8) (t : Fin 2048) : ∀ j : ℕ, (hj : j < 64) →
    ∃ a : Fin 64, a.val ≤ j ∧ best s j (ix2 r t) = s (ix3 a r t) ∧ bj s j (ix2 r t) = BitVec.ofNat 32 a.val
      ∧ (∀ b : Fin 64, b.val ≤ j → (s (ix3 b r t) : EReal) ≤ s (ix3 a r t)) ∧ ∀ b : Fin 64, b < a → (s (ix3 b r t) : EReal) < s (ix3 a r t)
  | 0, _ => ⟨0, le_rfl, sl_apply s 0 r t, rfl, fun b hb => by
      have : b = 0 := Fin.ext (Nat.le_zero.1 hb)
      rw [this], fun b hb => absurd hb (by simp)⟩
  | j + 1, hj => by
    obtain ⟨a, ha, hb, hc, hm, hs⟩ := best_spec s r t j (by omega)
    have e : sl s (j + 1) (ix2 r t) = s (ix3 ⟨j + 1, hj⟩ r t) := sl_apply s ⟨j + 1, hj⟩ r t
    have h1 : best s (j + 1) (ix2 r t) = Scalar.select (Ideal.cmp .ogt (sl s (j + 1) (ix2 r t)) (best s j (ix2 r t))) (sl s (j + 1) (ix2 r t)) (best s j (ix2 r t)) := rfl
    have h2 : bj s (j + 1) (ix2 r t) = Scalar.select (Ideal.cmp .ogt (sl s (j + 1) (ix2 r t)) (best s j (ix2 r t))) (BitVec.ofNat 32 (j + 1)) (bj s j (ix2 r t)) := rfl
    rw [e, hb] at h1 h2
    by_cases h : (s (ix3 a r t) : EReal) < s (ix3 ⟨j + 1, hj⟩ r t)
    · have hcmp : Ideal.cmp .ogt (s (ix3 ⟨j + 1, hj⟩ r t)) (s (ix3 a r t)) = 1#1 := by simp [Ideal.cmp, h]
      rw [hcmp, select_one] at h1 h2
      refine ⟨⟨j + 1, hj⟩, le_rfl, h1, h2, fun b hb' => ?_, fun b hb' => ?_⟩
      · rcases Nat.lt_or_ge j b.val with h' | h'
        · have : b = ⟨j + 1, hj⟩ := Fin.ext (by simp; omega)
          rw [this]
        · exact (hm b h').trans h.le
      · exact (hm b (by have := Fin.lt_def.1 hb'; simp at this; omega)).trans_lt h
    · have hcmp : Ideal.cmp .ogt (s (ix3 ⟨j + 1, hj⟩ r t)) (s (ix3 a r t)) = 0#1 := by simp [Ideal.cmp, h]
      rw [hcmp, select_zero] at h1 h2
      refine ⟨a, by omega, h1, h2.trans hc, fun b hb' => ?_, hs⟩
      rcases Nat.lt_or_ge j b.val with h' | h'
      · have : b = ⟨j + 1, hj⟩ := Fin.ext (by simp; omega)
        rw [this]; exact not_lt.1 h
      · exact hm b h'

/-- The score of codeword `k` at token `t`. -/
def sc (s : FVec Ideal S64x8x2048 .f32) (t : Fin 2048) (k : Fin 512) : EReal :=
  s (ix3 ⟨k.val / 8, by omega⟩ ⟨k.val % 8, by omega⟩ t)

theorem sc_of (s : FVec Ideal S64x8x2048 .f32) (t : Fin 2048) (a : Fin 64) (r : Fin 8) (k : Fin 512) (h : k.val = a.val * 8 + r.val) :
    s (ix3 a r t) = sc s t k := by
  have e1 : (⟨k.val / 8, by omega⟩ : Fin 64) = a := Fin.ext (by simp; omega)
  have e2 : (⟨k.val % 8, by omega⟩ : Fin 8) = r := Fin.ext (by simp; omega)
  unfold sc; rw [e1, e2]

theorem max_fold {n : ℕ} (f : Fin n → EReal) (S : Finset (Fin n)) (hS : S.Nonempty) :
    (∀ i ∈ S, f i ≤ S.fold max ⊥ f) ∧ ∃ i ∈ S, S.fold max ⊥ f = f i := by
  have : S.fold max ⊥ f = S.sup f := rfl
  rw [this]
  exact ⟨fun i hi => Finset.le_sup hi, by
    obtain ⟨i, hi, h⟩ := Finset.exists_mem_eq_sup S hS f
    exact ⟨i, hi, h⟩⟩

theorem ofBits_bot : Ideal.ofBits .f32 0xFF800000#32 = ⊥ := by simp [Ideal.ofBits, Ideal.ieee]

theorem lift_ix (r : Fin 8) (t : Fin 2048) : (reduces_S8x2048_S2048 : S8x2048.Reduces [0] S2048).lift (ix1 t) r = ix2 r t := by
  funext b
  match b with
  | ⟨0, _⟩ => rfl
  | ⟨1, _⟩ => rfl

/-- A token's code is the lowest number of a codeword of highest score, and its best score is that score. -/
theorem code_spec (s : FVec Ideal S64x8x2048 .f32) (t : Fin 2048) :
    ∃ k : Fin 512, code s (ix1 t) = BitVec.ofNat 32 k.val ∧ mx s (ix1 t) = sc s t k
      ∧ (∀ k', sc s t k' ≤ sc s t k) ∧ ∀ k' < k, sc s t k' < sc s t k := by
  -- the eight running maxima
  choose a ha hb hc hm hs using fun r : Fin 8 => best_spec s r t 63 (by omega)
  have hmx : mx s (ix1 t) = (Finset.univ : Finset (Fin 8)).fold max ⊥ fun r => best s 63 (ix2 r t) := by
    refine (Ideal.multiReduction_maximumf_single (best s 63) 0xFF800000#32 reduces_S8x2048_S2048 (.inl rfl) rfl (ix1 t)).trans ?_
    rw [show (FloatOps.ofBits (F := Ideal) .f32 0xFF800000#32 : EReal) = ⊥ from ofBits_bot]
    exact Finset.fold_congr fun r _ => congrArg (best s 63) (lift_ix r t)
  obtain ⟨hle, r₁, -, hr₁⟩ := max_fold (fun r => best s 63 (ix2 r t)) Finset.univ ⟨0, Finset.mem_univ _⟩
  rw [← hmx] at hle hr₁
  let v : Fin 8 → BitVec 32 := fun r => if best s 63 (ix2 r t) = mx s (ix1 t) then BitVec.ofNat 32 ((a r).val * 8 + r.val) else 512#32
  have hcode : code s (ix1 t) = (Finset.univ : Finset (Fin 8)).fold IntOp.minsi 2147483647#32 v := by
    have key : ∀ r : Fin 8, select (cmpf .oeq (best s 63) (broadcastTo S8x2048 (shapeCast S1x2048 (mx s) shapeCasts_S2048_S1x2048) broadcasts_S1x2048_S8x2048))
        (cidx s) (broadcast S8x2048 512#32) (ix2 r t) = v r := by
      intro r
      have hB : broadcastTo S8x2048 (shapeCast S1x2048 (mx s) shapeCasts_S2048_S1x2048) broadcasts_S1x2048_S8x2048 (ix2 r t) = mx s (ix1 t) := by
        rw [broadcastTo_1b_ab_apply, shapeCast_a_1a_apply]
      rw [select_apply, cmpf_apply, hB]
      have hci : cidx s (ix2 r t) = BitVec.ofNat 32 ((a r).val * 8 + r.val) := by
        have : cidx s (ix2 r t) = bj s 63 (ix2 r t) * 8#32 + BitVec.ofNat 32 (0 * 8 + r.val) := rfl
        rw [this, hc, Nat.zero_mul, Nat.zero_add, ← BitVec.ofNat_mul, ← BitVec.ofNat_add]
      rw [hci]
      show Scalar.select (Ideal.cmp .oeq (best s 63 (ix2 r t)) (mx s (ix1 t))) _ 512#32 = v r
      by_cases h : best s 63 (ix2 r t) = mx s (ix1 t)
      · simp [Ideal.cmp, h, v, select_one]
      · simp [Ideal.cmp, h, v, select_zero]
    refine (multiReductionI_eq_fold .minsi _ 2147483647#32 reduces_S8x2048_S2048 rfl (ix1 t)).trans ?_
    refine (Shape.Reduces.fold_filter_drop_single reduces_S8x2048_S2048 IntOp.minsi _ _ _).trans ?_
    exact Finset.fold_congr fun r _ => (congrArg _ (lift_ix r t)).trans (key r)
  have hv : ∀ r, best s 63 (ix2 r t) = mx s (ix1 t) → (v r).toInt = (a r).val * 8 + r.val := by
    intro r h
    have := (a r).isLt; have := r.isLt
    simp only [v, h, if_true]
    rw [BitVec.toInt_ofNat']
    simp [Int.bmod]
    omega
  obtain ⟨f1, f2, -⟩ := fold_minsi v 2147483647#32 Finset.univ
  rw [← hcode] at f1 f2
  have hlt : (code s (ix1 t)).toInt < 512 := by
    have := f1 r₁ (Finset.mem_univ _)
    rw [hv r₁ hr₁.symm] at this
    have := (a r₁).isLt; have := r₁.isLt
    omega
  obtain ⟨r₀, hr₀⟩ : ∃ r, code s (ix1 t) = v r := by
    rcases f2 with h | ⟨r, -, h⟩
    · rw [h] at hlt; exact absurd hlt (by decide)
    · exact ⟨r, h⟩
  have hb₀ : best s 63 (ix2 r₀ t) = mx s (ix1 t) := by
    by_contra h
    rw [hr₀] at hlt
    simp only [v, h, if_false] at hlt
    exact absurd hlt (by decide)
  have hk : (a r₀).val * 8 + r₀.val < 512 := by have := (a r₀).isLt; have := r₀.isLt; omega
  have hmk : mx s (ix1 t) = sc s t ⟨(a r₀).val * 8 + r₀.val, hk⟩ := by
    rw [← hb₀, hb r₀]; exact sc_of s t _ _ _ rfl
  have hall : ∀ k', sc s t k' ≤ mx s (ix1 t) := by
    intro k'
    refine le_trans ?_ (hle ⟨k'.val % 8, by omega⟩ (Finset.mem_univ _))
    rw [hb]
    exact hm _ _ (by have := k'.isLt; simp; omega)
  refine ⟨⟨_, hk⟩, ?_, hmk, fun k' => hmk ▸ hall k', fun k' hk' => ?_⟩
  · rw [hr₀]; simp only [v, hb₀, if_true]
  · rw [← hmk]
    refine lt_of_le_of_ne (hall k') fun he => ?_
    have hr' : best s 63 (ix2 ⟨k'.val % 8, by omega⟩ t) = mx s (ix1 t) := by
      refine le_antisymm (hle _ (Finset.mem_univ _)) ?_
      rw [← he, hb]
      exact hm _ _ (by have := k'.isLt; simp; omega)
    have h1 := f1 ⟨k'.val % 8, by omega⟩ (Finset.mem_univ _)
    rw [hv _ hr', hr₀, hv _ hb₀] at h1
    have h2 : (a ⟨k'.val % 8, by omega⟩).val ≤ k'.val / 8 := by
      by_contra h
      have := hs ⟨k'.val % 8, by omega⟩ ⟨k'.val / 8, by omega⟩ (Fin.lt_def.2 (by simpa using h))
      rw [← hb, hr', ← he] at this
      exact lt_irrefl _ this
    have h3 := Fin.lt_def.1 hk'
    simp only at h1 h2 h3
    omega

end Cert.Vq

end
-- ==== Proof.Frames.lean ====
/-
  The kernel run over the extended reals: the codes the SparseCore receives number codewords, so the run goes through,
  leaves its arguments as they were and every semaphore at zero.
-/
module

public import proofs.«01_k».proof.Proof.Reads
public import proofs.«01_k».proof.Proof.Score

@[expose] public section

noncomputable section

namespace Cert.Vq

open Cert.KernelIdeal Cert.KernelIdeal.Gen
open Idealize.ShloMosaic Idealize.ShloMosaic.ValueIdx Idealize.ShloMosaic.TcCoe

variable (m : (ℓ : Loc nD τ sig) → Buf (Elt Ideal) ℓ)

theorem code_lt (s : FVec Ideal S64x8x2048 .f32) (i : S2048.Idx) : (code s i).toNat < 512 := by
  obtain ⟨k, e, -⟩ := code_spec s (i 0)
  have e' : code s i = BitVec.ofNat 32 k.val := (congrArg (code s) (eq_ix1 i)).trans e
  rw [e', BitVec.toNat_ofNat]
  exact lt_of_le_of_lt (Nat.mod_le _ _) k.isLt

theorem cast_lt {a b : Shape} (h : a.ShapeCasts b) (v : IVec a 32) (hv : ∀ i, (v i).toNat < 512) (j : b.Idx) : (shapeCast b v h j).toNat < 512 :=
  hv _

theorem inRange (d : Dev nD) : Sc.InRange (vals (W4 m) d main_v3) := by
  intro j
  refine lt_of_eq_of_lt (congrArg BitVec.toNat (congrFun (W4_codes m d) j)) ?_
  refine cast_lt _ _ (fun i => ?_) j
  unfold codesFrom
  exact code_lt _ _

/-- The kernel run leaves the values read off before, its arguments as they were and every semaphore at zero. -/
theorem run_frame (ρ : Dev nD → PrngReg) :
    θ_run (defs (F := Ideal)) threads ⟨m, fun _ => 0, ρ⟩ fun r =>
      (∀ c : Dev nD, r.2.mem ((c.tc : Thread nD τ).loc main_v6) = W16 m c (Proc.devRef .tc main_v6)
        ∧ r.2.mem ((c.tc : Thread nD τ).loc main_v13) = W16 m c (Proc.devRef .tc main_v13)
        ∧ r.2.mem ((c.tc : Thread nD τ).loc main_v8) = W16 m c (Proc.devRef .tc main_v8))
        ∧ (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0 := by
  haveI : ∀ e, Nonempty (Elt Ideal e) := fun e => by cases e <;> exact ⟨default⟩
  refine (θ_run defs _ _).mono (fun r h => ?_) (run_main m ρ (inRange m))
  have rd : ∀ (c : Dev nD) (b : Ref sig .tc) (_ : b.isScoped = false), r.2.mem ((c.tc : Thread nD τ).loc b) = W16 m c (Proc.devRef .tc b) :=
    fun c b hb => h.1 c _ (mem_ucRefs b hb)
  exact ⟨fun c => ⟨rd c _ (by decide), rd c _ (by decide), rd c _ (by decide)⟩,
    fun c => ⟨(rd c _ (by decide)).trans (W16_arg m c (by simp)), (rd c _ (by decide)).trans (W16_arg m c (by simp)),
      (rd c _ (by decide)).trans (W16_arg m c (by simp)), (rd c _ (by decide)).trans (W16_arg m c (by simp)),
      (rd c _ (by decide)).trans (W16_arg m c (by simp)), (rd c _ (by decide)).trans (W16_arg m c (by simp))⟩, h.2⟩

end Cert.Vq

end
-- ==== Proof.Ref.lean ====
/-
  The reference as a straight line of operations, and its run.
-/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.VqRef

open Cert.ReferenceIdeal Cert.ReferenceIdeal.Gen
open Idealize.ShloMosaic Idealize.ShloMosaic.StableHlo Idealize.ShloMosaic.TcCoe

variable {F : FTy → Type} [FloatOps F]

/-- The weight of the loss, the latents and their distances to the codewords. -/
abbrev opsA : List (HloOp τ sig (Elt F)) :=
  [ nullary main_cst (constant S_ .f32 0x41980000#32),
    nullary main_cst_0 (constant S_ .f32 0x41A00000#32),
    binary main_cst main_cst_0 main_v0 Host.divf,
    binary main_arg0 main_arg1 main_v1 ((fun l r => Host.dotGeneral dot_S64x1024x96_S96x32_S64x1024x32_2_0_01_1_n_n none l r)),
    unary main_arg2 main_v2 (broadcastInDim S1x1x32 ![2] bcast_S32_S1x1x32_2),
    unary main_v2 main_v3 (broadcastInDim S64x1024x32 ![0, 1, 2] bcast_S1x1x32_S64x1024x32_0_1_2),
    binary main_v1 main_v3 main_v4 addf,
    reshape main_v4 main_v5 rfl shapeCasts_S64x1024x32_S65536x32,
    binary main_v5 main_v5 main_v6 mulf,
    nullary main_cst_1 (constant S_ .f32 0x00000000#32),
    binary main_v6 main_cst_1 main_v7 ((fun x v => Host.reduceAdd x v reducesTo_S65536x32_S65536_d1 h_S_)),
    unary main_v7 main_v8 (broadcastInDim S65536x1 ![0] bcast_S65536_S65536x1_0),
    nullary main_cst_2 (constant S_ .f32 0x40000000#32),
    unary main_cst_2 main_v9 (broadcastInDim S65536x32 ![] bcast_S_S65536x32),
    binary main_v9 main_v5 main_v10 mulf,
    unary main_arg3 main_v11 ((transpose S32x512 [1, 0] · transposes_S512x32_S32x512_1_0)),
    binary main_v10 main_v11 main_v12 ((fun l r => Host.dotGeneral dot_S65536x32_S32x512_S65536x512_1_0_0_1_n_n none l r)),
    unary main_v8 main_v13 (broadcastInDim S65536x512 ![0, 1] bcast_S65536x1_S65536x512_0_1),
    binary main_v13 main_v12 main_v14 subf,
    binary main_arg3 main_arg3 main_v15 mulf,
    nullary main_cst_3 (constant S_ .f32 0x00000000#32),
    binary main_v15 main_cst_3 main_v16 ((fun x v => Host.reduceAdd x v reducesTo_S512x32_S512_d1 h_S_)),
    unary main_v16 main_v17 (broadcastInDim S1x512 ![1] bcast_S512_S1x512_1),
    unary main_v17 main_v18 (broadcastInDim S65536x512 ![0, 1] bcast_S1x512_S65536x512_0_1),
    binary main_v14 main_v18 main_v19 addf ]

/-- The nearest codeword of each latent: its number and its row. -/
abbrev opsB : List (HloOp τ sig (Elt F)) :=
  [ TRef.nullary main_call0.v0 (iotaInDim S65536x512 32 1),
    TRef.nullary main_call0.cst (constant S_ .f32 0x7F800000#32),
    TRef.nullary main_call0.c (constantI S_ 32 0#32),
    TRef.quaternary (.of main_v19) main_call0.v0 main_call0.cst main_call0.c main_call0.v1_0 (fun x y u v j => (Host.argReduce reducer_argmin_f32_i32 x y u v reducesTo_S65536x512_S65536_d1 h_S_ j).1),
    TRef.quaternary (.of main_v19) main_call0.v0 main_call0.cst main_call0.c main_call0.v1_1 (fun x y u v j => (Host.argReduce reducer_argmin_f32_i32 x y u v reducesTo_S65536x512_S65536_d1 h_S_ j).2),
    TRef.nullary main_call1.c (constantI S_ 32 0#32),
    TRef.unary main_call1.c main_call1.v0 (broadcastInDim S65536 ![] bcast_S_S65536),
    TRef.binary (.of main_v20) main_call1.v0 main_call1.v1 (cmpi .slt),
    TRef.nullary main_call1.c_0 (constantI S_ 32 512#32),
    TRef.unary main_call1.c_0 main_call1.v2 (broadcastInDim S65536 ![] bcast_S_S65536),
    TRef.binary (.of main_v20) main_call1.v2 main_call1.v3 addi,
    TRef.ternary main_call1.v1 main_call1.v3 (.of main_v20) main_call1.call0.v0 select,
    TRef.unary main_call1.call0.v0 main_call1.v5 (broadcastInDim S65536x1 ![0] bcast_S65536_S65536x1_0),
    TRef.nullary main_call1.c_1 (constantI S1 32 511#32),
    TRef.nullary main_call1.c_2 (constantI S_ 32 0#32),
    TRef.unary main_call1.c_2 main_call1.v6 (broadcastInDim S65536x1 ![] bcast_S_S65536x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S65536x1 ![0, 1] bcast_S1x1_S65536x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S65536x1_S65536_d1 h_S_),
    TRef.binary (.of main_arg3) main_call1.v5 main_call1.v13 (fun x i => Host.gather gather_S512x32_S65536x1_S65536x32_1_0_n_n_0_1_132 x i),
    TRef.unary main_call1.v12 main_call1.v14 (broadcastInDim S65536x32 ![0] bcast_S65536_S65536x32_0),
    TRef.nullary main_call1.cst (constant S_ .f32 0x7FC00000#32),
    TRef.unary main_call1.cst main_call1.v15 (broadcastInDim S65536x32 ![] bcast_S_S65536x32),
    TRef.ternary main_call1.v14 main_call1.v13 main_call1.v15 main_call1.v16 select ]

/-- The loss, the reconstruction and the codes. -/
abbrev opsC : List (HloOp τ sig (Elt F)) :=
  [ reshape main_v21 main_v22 rfl shapeCasts_S65536x32_S64x1024x32,
    binary main_v4 main_v22 main_v23 subf,
    binary main_v23 main_v23 main_v24 mulf,
    nullary main_cst_4 (constant S_ .f32 0x00000000#32),
    binary main_v24 main_cst_4 main_v25 ((fun x v => Host.reduceAdd x v reducesTo_S64x1024x32_S_d0_1_2 h_S_)),
    nullary main_cst_5 (constant S_ .f32 0x4A000000#32),
    binary main_v25 main_cst_5 main_v26 Host.divf,
    binary main_v0 main_v26 main_v27 mulf,
    nullary main_cst_6 (constant S_ .f32 0x3F800000#32),
    binary main_cst_6 main_v0 main_v28 subf,
    binary main_v4 main_v22 main_v29 subf,
    binary main_v29 main_v29 main_v30 mulf,
    nullary main_cst_7 (constant S_ .f32 0x00000000#32),
    binary main_v30 main_cst_7 main_v31 ((fun x v => Host.reduceAdd x v reducesTo_S64x1024x32_S_d0_1_2 h_S_)),
    nullary main_cst_8 (constant S_ .f32 0x4A000000#32),
    binary main_v31 main_cst_8 main_v32 Host.divf,
    binary main_v28 main_v32 main_v33 mulf,
    binary main_v27 main_v33 main_v34 addf,
    binary main_v22 main_v4 main_v35 subf,
    binary main_v4 main_v35 main_v36 addf,
    binary main_v36 main_arg4 main_v37 ((fun l r => Host.dotGeneral dot_S64x1024x32_S32x96_S64x1024x96_2_0_01_1_n_n none l r)),
    unary main_arg5 main_v38 (broadcastInDim S1x1x96 ![2] bcast_S96_S1x1x96_2),
    unary main_v38 main_v39 (broadcastInDim S64x1024x96 ![0, 1, 2] bcast_S1x1x96_S64x1024x96_0_1_2),
    binary main_v37 main_v39 main_v40 addf,
    reshape main_v20 main_v41 rfl shapeCasts_S65536_S64x1024 ]

/-- The operations of @main, in order. -/
abbrev ops : List (HloOp τ sig (Elt F)) := opsA ++ (opsB ++ opsC)

set_option maxRecDepth 2048 in
theorem main_eq (c : Dev nD) : main (F := F) c = seq ops := by
  simp only [main, fn_argmin.body, fn_where.body, fn_take.body, List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., binary_bufs_sub .., binary_bufs_sub .., unary_bufs_sub ..,
    unary_bufs_sub .., binary_bufs_sub .., reshape_bufs_sub .., binary_bufs_sub .., nullary_bufs_sub ..,
    binary_bufs_sub .., unary_bufs_sub .., nullary_bufs_sub .., unary_bufs_sub .., binary_bufs_sub ..,
    unary_bufs_sub .., binary_bufs_sub .., unary_bufs_sub .., binary_bufs_sub .., binary_bufs_sub ..,
    nullary_bufs_sub .., binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub ..,
    nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩

theorem opsC_sub : (opsC : List (HloOp τ sig (Elt F))).Forall fun op => op.bufs ⊆ tcRefs τ sig :=
  ⟨reshape_bufs_sub .., binary_bufs_sub .., binary_bufs_sub .., nullary_bufs_sub .., binary_bufs_sub ..,
    nullary_bufs_sub .., binary_bufs_sub .., binary_bufs_sub .., nullary_bufs_sub .., binary_bufs_sub ..,
    binary_bufs_sub .., binary_bufs_sub .., nullary_bufs_sub .., binary_bufs_sub .., nullary_bufs_sub ..,
    binary_bufs_sub .., binary_bufs_sub .., binary_bufs_sub .., binary_bufs_sub .., binary_bufs_sub ..,
    binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_append.mpr ⟨opsA_sub, List.forall_append.mpr ⟨opsB_sub, opsC_sub⟩⟩

/-- The contents after the operations, by its three parts. -/
theorem after_parts (l₁ l₂ : List (HloOp τ sig (Elt F))) (V : Valuation τ sig (Elt F)) : after (l₁ ++ l₂) V = after l₂ (after l₁ V) := by
  induction l₁ generalizing V with
  | nil => rfl
  | cons op l ih => exact ih _

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

section
variable (V : Valuation τ sig (Elt F))

theorem arg0_eq : after ops V (main_arg0 : DevRef τ sig) = V (main_arg0 : DevRef τ sig) := by
  simp only [List.cons_append, List.nil_append, after_cons, after_nil]
  rfl

theorem arg1_eq : after ops V (main_arg1 : DevRef τ sig) = V (main_arg1 : DevRef τ sig) := by
  simp only [List.cons_append, List.nil_append, after_cons, after_nil]
  rfl

theorem arg2_eq : after ops V (main_arg2 : DevRef τ sig) = V (main_arg2 : DevRef τ sig) := by
  simp only [List.cons_append, List.nil_append, after_cons, after_nil]
  rfl

theorem arg3_eq : after ops V (main_arg3 : DevRef τ sig) = V (main_arg3 : DevRef τ sig) := by
  simp only [List.cons_append, List.nil_append, after_cons, after_nil]
  rfl

theorem arg4_eq : after ops V (main_arg4 : DevRef τ sig) = V (main_arg4 : DevRef τ sig) := by
  simp only [List.cons_append, List.nil_append, after_cons, after_nil]
  rfl

theorem arg5_eq : after ops V (main_arg5 : DevRef τ sig) = V (main_arg5 : DevRef τ sig) := by
  simp only [List.cons_append, List.nil_append, after_cons, after_nil]
  rfl

end

/-- The reference run leaves its arguments as they were and every semaphore at zero. -/
theorem run_frame (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (b : DevRef τ sig))
        ∧ (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0 :=
  (θ_run defs _ _).mono (fun r h => ⟨h, fun c => ⟨(h c main_arg0).trans (arg0_eq _), (h c main_arg1).trans (arg1_eq _),
    (h c main_arg2).trans (arg2_eq _), (h c main_arg3).trans (arg3_eq _), (h c main_arg4).trans (arg4_eq _), (h c main_arg5).trans (arg5_eq _)⟩,
    Idealize.ShloMosaic.sem_eq_zero_of_no_sems (by decide) r.2⟩) (run_main m ρ)

end Cert.VqRef

end
-- ==== Proof.Payload.lean ====
/-
  What the bodies compute, read at an index over the extended reals.
-/
module

public import proofs.«01_k».proof.Proof.Chain
public import Idealize.ShloMosaic.Lib.Pointwise
public import Idealize.ShloMosaic.Lib.Pointwise.IndexBridge
public import Idealize.ShloMosaic.Lib.IdealHost
public import Idealize.ShloMosaic.Lib.WordCmp

@[expose] public section

set_option maxRecDepth 16384

noncomputable section

namespace Cert.Vq

open Cert.KernelIdeal Cert.KernelIdeal.Gen
open Idealize.ShloMosaic

section
variable (C : Vec Ideal S512x32 .f32) (X : Vec Ideal S2x1024x96 .f32) (W : Vec Ideal S96x32 .f32) (B : Vec Ideal S1x32 .f32)
  (Wd : Vec Ideal S32x96 .f32) (Bd : Vec Ideal S1x96 .f32)

theorem lat_read (p : Fin 2048) (e : Fin 32) : k0_pay2 X W B (ix2 p e) = ∑ d : Fin 96, X (ix3 ⟨p / 1024, by omega⟩ ⟨p % 1024, by omega⟩ d) * W (ix2 d e) + B (ix2 0 e) := by
  pointwise [k0_pay2]

theorem score_read (j : Fin 64) (r : Fin 8) (t : Fin 2048) : k0_pay3 C X W B (ix3 j r t)
    = (∑ e : Fin 32, Ideal.ofBits .f32 0x40000000#32 * C (ix2 ⟨j * 8 + r, by omega⟩ e) * k0_pay2 X W B (ix2 t e))
      - ∑ e : Fin 32, C (ix2 ⟨j * 8 + r, by omega⟩ e) * C (ix2 ⟨j * 8 + r, by omega⟩ e) := by
  pointwise [k0_pay3]

theorem table0_read (k : Fin 512) (d : Fin 96) : R0.tabv C Wd Bd (ix2 k (Fin.castLE (by decide : 96 ≤ 128) d)) = ∑ e : Fin 32, C (ix2 k e) * Wd (ix2 e d) + Bd (ix2 0 d) := by
  pointwise [R0.tabv, k0_pay1]
  exact dif_pos d.isLt

theorem table2_read (k : Fin 512) (d : Fin 96) : R2.tabv C Wd Bd (ix2 k d) = ∑ e : Fin 32, C (ix2 k e) * Wd (ix2 e d) + Bd (ix2 0 d) := by
  pointwise [R2.tabv, k2_pay2]
end

/-- A choice by two words' equality. -/
theorem select_eq {α : Type} {w : ℕ} (x y : BitVec w) (a b : α) : Scalar.select (IntOp.cmpi .eq x y) a b = if x = y then a else b := by
  rw [WordCmp.cmpi_eq_eq]
  by_cases h : x = y <;> simp [h, Scalar.select]

theorem loss_read (z : FVec Ideal S2048x32 .f32) (m : FVec Ideal S2048 .f32) (a : BitVec 32) (l : S1x1.Idx → Elt Ideal .f32) (i : S1x1.Idx) :
    lossOf z m a l i = (if a = 0#32 then 0 else l i) + ((∑ t : Fin 2048, ∑ e : Fin 32, z (ix2 t e) * z (ix2 t e)) - ∑ t : Fin 2048, m (ix1 t)) := by
  pointwise [lossOf]
  rw [← select_eq a 0#32]
  rfl

/-- A row of the product with the one-hot matrix is the row of the table. -/
theorem rows_at (q : IVec S2048 32) (tb : Vec Ideal S512x96 .f32) (p : Fin 2048) (d : Fin 96) (k : Fin 512) (hk : q (ix1 p) = BitVec.ofNat 32 k.val) :
    rowsOf q tb (ix2 p d) = tb (ix2 k d) := by
  pointwise [rowsOf]
  rw [hk]
  refine (Finset.sum_congr rfl fun x _ => select_eq _ _ _ _).trans ?_
  refine (Finset.sum_eq_single k (fun x _ hx => if_neg fun h => hx (Fin.ext ?_)) (fun h => absurd (Finset.mem_univ k) h)).trans (if_pos rfl)
  have := congrArg BitVec.toNat h
  rwa [BitVec.toNat_ofNat, BitVec.toNat_ofNat, Nat.mod_eq_of_lt (by omega), Nat.mod_eq_of_lt (by omega)] at this

end Cert.Vq

end
-- ==== Proof.Spec.lean ====
/-
  The quantiser over the reals: latents, scores, the nearest codeword, and the sums the two programs meet in.
-/
module

public import Idealize.ShloMosaic.Lib.Pointwise

@[expose] public section

noncomputable section

namespace Cert.Quant

open Idealize.ShloMosaic

/-- The latent of a token `x`. -/
def lat (x : Fin 96 → ℝ) (w : Fin 96 → Fin 32 → ℝ) (b : Fin 32 → ℝ) (e : Fin 32) : ℝ := ∑ d, x d * w d e + b e

/-- The score of codeword `k`: the larger, the nearer to the latent `z`. -/
def score (c : Fin 512 → Fin 32 → ℝ) (z : Fin 32 → ℝ) (k : Fin 512) : ℝ := (∑ e, 2 * c k e * z e) - ∑ e, c k e * c k e

/-- The squared distance of `z` to codeword `k`. -/
def dist (c : Fin 512 → Fin 32 → ℝ) (z : Fin 32 → ℝ) (k : Fin 512) : ℝ := (∑ e, z e * z e) - score c z k

/-- Codeword `k` is the first of highest score. -/
def Nearest (c : Fin 512 → Fin 32 → ℝ) (z : Fin 32 → ℝ) (k : Fin 512) : Prop :=
  (∀ k', score c z k' ≤ score c z k) ∧ ∀ k' < k, score c z k' < score c z k

theorem Nearest.unique {c : Fin 512 → Fin 32 → ℝ} {z : Fin 32 → ℝ} {k k' : Fin 512} (h : Nearest c z k) (h' : Nearest c z k') : k = k' := by
  rcases lt_trichotomy k k' with hl | e | hl
  · exact absurd (h'.2 k hl) (not_lt.2 (h.1 k'))
  · exact e
  · exact absurd (h.2 k' hl) (not_lt.2 (h'.1 k))

theorem Nearest.exists (c : Fin 512 → Fin 32 → ℝ) (z : Fin 32 → ℝ) : ∃ k, Nearest c z k := by
  obtain ⟨m, -, hm⟩ := Finset.exists_max_image Finset.univ (score c z) ⟨0, Finset.mem_univ _⟩
  have hne : (Finset.univ.filter fun k => score c z k = score c z m).Nonempty := ⟨m, by simp⟩
  refine ⟨Finset.min' _ hne, fun k' => ?_, fun k' hk => ?_⟩
  · rw [(Finset.mem_filter.1 (Finset.min'_mem _ hne)).2]; exact hm k' (Finset.mem_univ _)
  · rw [(Finset.mem_filter.1 (Finset.min'_mem _ hne)).2]
    refine lt_of_le_of_ne (hm k' (Finset.mem_univ _)) fun e => ?_
    exact absurd (Finset.min'_le _ k' (Finset.mem_filter.2 ⟨Finset.mem_univ _, e⟩)) (not_le.2 hk)

theorem dist_eq (c : Fin 512 → Fin 32 → ℝ) (z : Fin 32 → ℝ) (k : Fin 512) : dist c z k = ∑ e, (z e - c k e) * (z e - c k e) := by
  unfold dist score
  rw [← Finset.sum_sub_distrib, ← Finset.sum_sub_distrib]
  exact Finset.sum_congr rfl fun e _ => by ring

/-- The arrays hold these reals: the tokens, the encoder, its bias and the codebook. -/
structure Inputs (A0 : (⟨3, ![64, 1024, 96]⟩ : Shape).Idx → EReal) (A1 : (⟨2, ![96, 32]⟩ : Shape).Idx → EReal) (A2 : (⟨1, ![32]⟩ : Shape).Idx → EReal)
    (A3 : (⟨2, ![512, 32]⟩ : Shape).Idx → EReal) (x : Fin 64 → Fin 1024 → Fin 96 → ℝ) (w : Fin 96 → Fin 32 → ℝ) (b : Fin 32 → ℝ) (c : Fin 512 → Fin 32 → ℝ) : Prop where
  x : ∀ i t a, A0 (ix3 i t a) = (x i t a : EReal)
  w : ∀ a e, A1 (ix2 a e) = (w a e : EReal)
  b : ∀ e, A2 (ix1 e) = (b e : EReal)
  c : ∀ k e, A3 (ix2 k e) = (c k e : EReal)

/-- The loss: the mean squared distance of the latents to their codewords. -/
def loss (x : Fin 64 → Fin 1024 → Fin 96 → ℝ) (w : Fin 96 → Fin 32 → ℝ) (b : Fin 32 → ℝ) (c : Fin 512 → Fin 32 → ℝ) (κ : Fin 64 → Fin 1024 → Fin 512) : ℝ :=
  (∑ i, ∑ t, dist c (lat (x i t) w b) (κ i t)) / 2097152

/-- The reconstruction: the codeword decoded. -/
def reco (A3 : (⟨2, ![512, 32]⟩ : Shape).Idx → EReal) (A4 : (⟨2, ![32, 96]⟩ : Shape).Idx → EReal) (A5 : (⟨1, ![96]⟩ : Shape).Idx → EReal) (k : Fin 512) (a : Fin 96) : EReal :=
  ∑ e, A3 (ix2 k e) * A4 (ix2 e a) + A5 (ix1 a)

/-- A sum of reals, among the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A sum over all numbers, by their quotients and remainders. -/
theorem sum_split (M K : ℕ) (f : ℕ → ℝ) : ∑ n : Fin M, ∑ a : Fin K, f (n.val * K + a.val) = ∑ i : Fin (M * K), f i.val := by
  rw [← Fintype.sum_prod_type']
  refine Fintype.sum_equiv finProdFinEquiv _ _ fun p => congrArg f ?_
  rw [finProdFinEquiv_apply_val, Nat.mul_comm, Nat.add_comm]

theorem ofBits_two : Ideal.ofBits .f32 0x40000000#32 = ((2 : ℝ) : EReal) := by
  simp [Ideal.ofBits, Ideal.ieee]; rw [← EReal.coe_mul]; norm_num

theorem ofBits_count : Ideal.ofBits .f32 0x4A000000#32 = ((2097152 : ℝ) : EReal) := by
  simp [Ideal.ofBits, Ideal.ieee]; rw [← EReal.coe_mul]; norm_num

theorem ofBits_nineteen : Ideal.ofBits .f32 0x41980000#32 = ((19 : ℝ) : EReal) := by
  simp [Ideal.ofBits, Ideal.ieee]; rw [← EReal.coe_mul]; norm_num

theorem ofBits_twenty : Ideal.ofBits .f32 0x41A00000#32 = ((20 : ℝ) : EReal) := by
  simp [Ideal.ofBits, Ideal.ieee]; rw [← EReal.coe_mul]; norm_num

theorem div_coe_coe {x y : ℝ} (h : y ≠ 0) : Ideal.div (x : EReal) (y : EReal) = ((x / y : ℝ) : EReal) := by
  rw [Ideal.div_coe h, ← EReal.coe_mul, mul_one_div]

end Cert.Quant

end
-- ==== Proof.Values.lean ====
/-
  What the kernel leaves, of finite tokens, encoder and codebook: the nearest codewords, their scores and rows.
-/
module

public import proofs.«01_k».proof.Proof.Reads
public import proofs.«01_k».proof.Proof.Score
public import proofs.«01_k».proof.Proof.Payload
public import proofs.«01_k».proof.Proof.Spec

@[expose] public section

set_option maxRecDepth 16384

noncomputable section

namespace Cert.Vq

open Cert.KernelIdeal Cert.KernelIdeal.Gen Cert.Quant
open Idealize.ShloMosaic

/-- The arrays the scores are made of hold these reals. -/
structure Holds (V : Vals Ideal) (d : Dev nD) (x : Fin 64 → Fin 1024 → Fin 96 → ℝ) (w : Fin 96 → Fin 32 → ℝ) (b : Fin 32 → ℝ) (c : Fin 512 → Fin 32 → ℝ) : Prop where
  x : ∀ i t a, V d main_arg0 (ix3 i t a) = (x i t a : EReal)
  w : ∀ a e, V d main_arg1 (ix2 a e) = (w a e : EReal)
  b : ∀ e, V d main_v0 (ix2 0 e) = (b e : EReal)
  c : ∀ k e, V d main_arg3 (ix2 k e) = (c k e : EReal)

/-- The batch of token `p` of pair `n`. -/
def bat (n : ℕ) (p : Fin 2048) : Fin 64 := Fin.ofNat 64 (2 * n + p.val / 1024)

/-- Its place in the batch. -/
def pos (p : Fin 2048) : Fin 1024 := ⟨p.val % 1024, Nat.mod_lt _ (by decide)⟩

/-- The loss of pair `n`. -/
def pairLoss (x : Fin 64 → Fin 1024 → Fin 96 → ℝ) (w : Fin 96 → Fin 32 → ℝ) (b : Fin 32 → ℝ) (c : Fin 512 → Fin 32 → ℝ)
    (κ : Fin 64 → Fin 1024 → Fin 512) (n : ℕ) : ℝ :=
  ∑ p, dist c (lat (x (bat n p) (pos p)) w b) (κ (bat n p) (pos p))

section
variable {V : Vals Ideal} {d : Dev nD} {x : Fin 64 → Fin 1024 → Fin 96 → ℝ} {w : Fin 96 → Fin 32 → ℝ} {b : Fin 32 → ℝ} {c : Fin 512 → Fin 32 → ℝ}
  (H : Holds V d x w b c)
include H

theorem lats_coe (n : ℕ) (p : Fin 2048) (e : Fin 32) : lats V d n (ix2 p e) = (lat (x (bat n p) (pos p)) w b e : EReal) := by
  unfold lats
  rw [lat_read]
  unfold lat
  rw [EReal.coe_add, coe_sum, ← H.b]
  refine congrArg (· + _) (Finset.sum_congr rfl fun a _ => ?_)
  rw [EReal.coe_mul, ← H.w, ← H.x]
  refine congrArg (· * _) ?_
  exact congrArg (V d main_arg0) (ix3_eq_valueIdx _ _ _).symm

theorem scores_coe (n : ℕ) (j : Fin 64) (r : Fin 8) (p : Fin 2048) :
    scores V d n (ix3 j r p) = (score c (lat (x (bat n p) (pos p)) w b) ⟨j * 8 + r, by omega⟩ : EReal) := by
  unfold scores
  rw [score_read]
  unfold score
  rw [EReal.coe_sub, coe_sum, coe_sum]
  refine congrArg₂ (· - ·) (Finset.sum_congr rfl fun e _ => ?_) (Finset.sum_congr rfl fun e _ => ?_)
  · rw [EReal.coe_mul, EReal.coe_mul, ← H.c, ← lats_coe H, ofBits_two]; rfl
  · rw [EReal.coe_mul, ← H.c]

theorem sc_coe (n : ℕ) (p : Fin 2048) (k : Fin 512) : sc (scores V d n) p k = (score c (lat (x (bat n p) (pos p)) w b) k : EReal) := by
  unfold sc
  rw [← ix3_eq_valueIdx, scores_coe H]
  refine congrArg (fun k => ((score c _ k : ℝ) : EReal)) (Fin.ext ?_)
  show k.val / 8 * 8 + k.val % 8 = k.val
  omega

variable {κ : Fin 64 → Fin 1024 → Fin 512} (hκ : ∀ i t, Nearest c (lat (x i t) w b) (κ i t))
include hκ

theorem code_coe (n : ℕ) (p : Fin 2048) : code (scores V d n) (ValueIdx.ix1 p) = BitVec.ofNat 32 (κ (bat n p) (pos p)).val
    ∧ mx (scores V d n) (ValueIdx.ix1 p) = (score c (lat (x (bat n p) (pos p)) w b) (κ (bat n p) (pos p)) : EReal) := by
  obtain ⟨k, hc, hm, hle, hlt⟩ := code_spec (scores V d n) p
  simp only [sc_coe H, EReal.coe_le_coe_iff, EReal.coe_lt_coe_iff] at hm hle hlt
  have e : k = κ (bat n p) (pos p) := Nearest.unique ⟨hle, hlt⟩ (hκ _ _)
  rw [← e]
  exact ⟨hc, hm⟩

/-- A pair's part of the loss. -/
theorem pair_loss (n : ℕ) (a : BitVec 32) (l : S1x1.Idx → Elt Ideal .f32) (i : S1x1.Idx) : lossOf (lats V d n) (mx (scores V d n)) a l i
    = (if a = 0#32 then 0 else l i) + (pairLoss x w b c κ n : EReal) := by
  rw [loss_read]
  refine congrArg (fun y : EReal => (if a = 0#32 then (0 : EReal) else l i) + y) ?_
  simp only [ix1_eq_valueIdx, (code_coe H hκ _ _).2, lats_coe H, ← EReal.coe_mul, ← coe_sum]
  rw [← EReal.coe_sub, ← Finset.sum_sub_distrib]
  rfl

theorem acc0_coe (n : ℕ) (hn : n < 4) (i : S1x1.Idx) : R0.acc V d n i = ((∑ j ∈ Finset.range (n + 1), pairLoss x w b c κ (28 + j) : ℝ) : EReal) := by
  have hp : ∀ n, n < 4 → (R0.pt n).val = n := fun n hn => Nat.mod_eq_of_lt hn
  induction n with
  | zero =>
    unfold R0.acc
    rw [lossv0_eq, gC0, gX0, gW0, gB0]
    refine (pair_loss H hκ _ _ _ i).trans ?_
    rw [if_pos (by decide +kernel), zero_add, hp 0 hn, Finset.sum_range_one]
  | succ n ih =>
    unfold R0.acc
    rw [lossv0_eq, gC0, gX0, gW0, gB0]
    refine (pair_loss H hκ _ _ _ i).trans ?_
    have hc : R0.co (R0.pt (n + 1)) ≠ 0#32 := by
      have key : ∀ t : Fin cfg0.N, t.val ≠ 0 → R0.co t ≠ 0#32 := by decide +kernel
      exact key _ (by rw [hp _ hn]; omega)
    rw [if_neg hc, ih (by omega), hp _ hn, Finset.sum_range_succ _ (n + 1), EReal.coe_add]

theorem acc2_coe (n : ℕ) (hn : n < 28) (i : S1x1.Idx) : R2.acc V d n i = ((∑ j ∈ Finset.range (n + 1), pairLoss x w b c κ j : ℝ) : EReal) := by
  have hp : ∀ n, n < 28 → (R2.pt n).val = n := fun n hn => Nat.mod_eq_of_lt hn
  induction n with
  | zero =>
    unfold R2.acc
    rw [lossv2_eq, gC2, gX2, gW2, gB2]
    refine (pair_loss H hκ _ _ _ i).trans ?_
    rw [if_pos (by decide +kernel), zero_add, hp 0 hn, Finset.sum_range_one]
  | succ n ih =>
    unfold R2.acc
    rw [lossv2_eq, gC2, gX2, gW2, gB2]
    refine (pair_loss H hκ _ _ _ i).trans ?_
    have hc : R2.co (R2.pt (n + 1)) ≠ 0#32 := by
      have key : ∀ t : Fin cfg2.N, t.val ≠ 0 → R2.co t ≠ 0#32 := by decide +kernel
      exact key _ (by rw [hp _ hn]; omega)
    rw [if_neg hc, ih (by omega), hp _ hn, Finset.sum_range_succ _ (n + 1), EReal.coe_add]

end

end Cert.Vq

end
-- ==== Proof.Results.lean ====
/-
  The three results of the kernel, of finite tokens, encoder and codebook.
-/
module

public import proofs.«01_k».proof.Proof.Values

@[expose] public section

set_option maxRecDepth 16384

noncomputable section

namespace Cert.Vq

open Cert.KernelIdeal Cert.KernelIdeal.Gen Cert.Quant
open Idealize.ShloMosaic Idealize.ShloMosaic.TcCoe

theorem bat_of {i : Fin 64} (n : ℕ) (p : Fin 2048) (h : 2 * n + p.val / 1024 = i.val) : bat n p = i :=
  Fin.ext ((congrArg (· % 64) h).trans (Nat.mod_eq_of_lt i.isLt))

theorem pos_of {t : Fin 1024} (p : Fin 2048) (h : p.val % 1024 = t.val) : pos p = t := Fin.ext h

/-- The gathered row at a place whose word is the number `k`. -/
theorem gathered_at (Tb : S512x128.Idx → Elt Ideal .f32) (I : S32x2x128.Idx → Elt Ideal .i32) (j : S8x1024x128.Idx) (a : Fin 128) (ha : (j 2).val = a.val) (k : Fin 512)
    (hk : I (ix3 ⟨Sc.row j / 256, by have := Sc.row_lt j; omega⟩ ⟨Sc.row j / 128 % 2, by omega⟩ ⟨Sc.row j % 128, by omega⟩) = BitVec.ofNat 32 k.val) :
    Sc.gathered Tb I j = Tb (ix2 k a) := by
  have e : Sc.word (Sc.row j) (Sc.row_lt j) = ix3 ⟨Sc.row j / 256, by have := Sc.row_lt j; omega⟩ ⟨Sc.row j / 128 % 2, by omega⟩ ⟨Sc.row j % 128, by omega⟩ := by
    funext a; match a with
    | ⟨0, _⟩ => rfl
    | ⟨1, _⟩ => rfl
    | ⟨2, _⟩ => rfl
  unfold Sc.gathered
  refine congrArg Tb (funext fun b => ?_)
  match b with
  | ⟨0, _⟩ =>
    refine Fin.ext ?_
    show (I (Sc.word (Sc.row j) (Sc.row_lt j))).toNat % 512 = k.val
    rw [e, hk, BitVec.toNat_ofNat]
    have := k.isLt
    omega
  | ⟨1, _⟩ => exact Fin.ext ha

/-- The losses of all the pairs are the loss of all the tokens. -/
theorem total (x : Fin 64 → Fin 1024 → Fin 96 → ℝ) (w : Fin 96 → Fin 32 → ℝ) (b : Fin 32 → ℝ) (c : Fin 512 → Fin 32 → ℝ) (κ : Fin 64 → Fin 1024 → Fin 512) :
     (∑ j ∈ Finset.range 28, pairLoss x w b c κ j) + ∑ j ∈ Finset.range 4, pairLoss x w b c κ (28 + j)
    = ∑ i, ∑ t, dist c (lat (x i t) w b) (κ i t) := by
  let F : ℕ → ℝ := fun n => dist c (lat (x (Fin.ofNat 64 (n / 1024)) (Fin.ofNat 1024 n)) w b) (κ (Fin.ofNat 64 (n / 1024)) (Fin.ofNat 1024 n))
  have e1 : ∀ n, pairLoss x w b c κ n = ∑ p : Fin 2048, F (n * 2048 + p.val) := fun n => Finset.sum_congr rfl fun p _ => by
    have hb : Fin.ofNat 64 ((n * 2048 + p.val) / 1024) = bat n p := by
      unfold bat; exact congrArg (Fin.ofNat 64) (by omega)
    have hp : Fin.ofNat 1024 (n * 2048 + p.val) = pos p := Fin.ext (by show (n * 2048 + p.val) % 1024 = p.val % 1024; omega)
    show _ = dist c (lat (x (Fin.ofNat 64 ((n * 2048 + p.val) / 1024)) (Fin.ofNat 1024 (n * 2048 + p.val))) w b) (κ (Fin.ofNat 64 ((n * 2048 + p.val) / 1024)) (Fin.ofNat 1024 (n * 2048 + p.val)))
    rw [hb, hp]
  have e2 : ∀ (i : Fin 64) (t : Fin 1024), dist c (lat (x i t) w b) (κ i t) = F (i.val * 1024 + t.val) := fun i t => by
    have hb : Fin.ofNat 64 ((i.val * 1024 + t.val) / 1024) = i := Fin.ext (by show (i.val * 1024 + t.val) / 1024 % 64 = i.val; omega)
    have hp : Fin.ofNat 1024 (i.val * 1024 + t.val) = t := Fin.ext (by show (i.val * 1024 + t.val) % 1024 = t.val; omega)
    show _ = dist c (lat (x (Fin.ofNat 64 ((i.val * 1024 + t.val) / 1024)) (Fin.ofNat 1024 (i.val * 1024 + t.val))) w b) (κ (Fin.ofNat 64 ((i.val * 1024 + t.val) / 1024)) (Fin.ofNat 1024 (i.val * 1024 + t.val)))
    rw [hb, hp]
  rw [← Finset.sum_range_add, Finset.sum_range fun n => pairLoss x w b c κ n]
  simp only [e1, e2]
  exact (sum_split 32 2048 F).trans (sum_split 64 1024 F).symm

section
variable (m : (ℓ : Loc nD τ sig) → Buf (Elt Ideal) ℓ) (d : Dev nD)

theorem W2_arg {r : Ref sig .tc} (h : r ≠ main_v0 ∧ r ≠ main_v1) : vals (W2 m) d r = m (d, Proc.devRef .tc r) :=
  (W2_ne m d h.2).trans (W1_ne m d h.1)

theorem W2_v0 : vals (W2 m) d main_v0 = shapeCast S1x32 (m (d, Proc.devRef .tc main_arg2)) shapeCasts_S32_S1x32 := by
  unfold vals; rw [W2_ne m d (by decide)]; unfold W1; rw [StableHlo.reshape_result']; rfl

theorem W2_v1 : vals (W2 m) d main_v1 = shapeCast S1x96 (m (d, Proc.devRef .tc main_arg5)) shapeCasts_S96_S1x96 := by
  unfold vals W2; rw [StableHlo.reshape_result', W1_ne m d (by decide)]; rfl

variable {x : Fin 64 → Fin 1024 → Fin 96 → ℝ} {w : Fin 96 → Fin 32 → ℝ} {b : Fin 32 → ℝ} {c : Fin 512 → Fin 32 → ℝ}
  (I : Inputs (m (d, Proc.devRef .tc main_arg0)) (m (d, Proc.devRef .tc main_arg1)) (m (d, Proc.devRef .tc main_arg2)) (m (d, Proc.devRef .tc main_arg3)) x w b c)
  {κ : Fin 64 → Fin 1024 → Fin 512} (hκ : ∀ i t, Nearest c (lat (x i t) w b) (κ i t))

include I in
theorem holds2 : Holds (vals (W2 m)) d x w b c where
  x i t a := by rw [W2_arg m d (by decide)]; exact I.x i t a
  w a e := by rw [W2_arg m d (by decide)]; exact I.w a e
  b e := by
    rw [W2_v0 m d]
    refine Eq.trans ?_ (I.b e)
    pointwise
  c k e := by rw [W2_arg m d (by decide)]; exact I.c k e

include I in
theorem holds5 : Holds (vals (W5 m)) d x w b c where
  x i t a := by unfold vals; rw [W5_kept m d (by decide)]; exact (holds2 m d I).x i t a
  w a e := by unfold vals; rw [W5_kept m d (by decide)]; exact (holds2 m d I).w a e
  b e := by unfold vals; rw [W5_kept m d (by decide)]; exact (holds2 m d I).b e
  c k e := by unfold vals; rw [W5_kept m d (by decide)]; exact (holds2 m d I).c k e

include I hκ

/-- A code of the pairs from `n` on. -/
theorem codesFrom_at {k : ℕ} (n : ℕ) (q : Fin k) (p : Fin 2048) :
    codesFrom (k := k) (vals (W2 m)) d n (ix3 q 0 p) = BitVec.ofNat 32 (κ (bat (n + q.val) p) (pos p)).val :=
  (code_coe (holds2 m d I) hκ (n + q.val) p).1

/-- The codes. -/
theorem kernel_codes (i : Fin 64) (t : Fin 1024) : W16 m d (Proc.devRef .tc main_v8) (ix2 i t) = BitVec.ofNat 32 (κ i t).val := by
  rw [W16_codes]
  pointwise
  by_cases h : i.val / 2 < 28
  · refine (dif_pos h).trans ((codesFrom_at m d I hκ 0 _ _).trans ?_)
    rw [bat_of (i := i) _ _ (by show 2 * (0 + i.val / 2) + (i.val % 2 * 1024 + t.val) / 1024 = i.val; omega),
      pos_of (t := t) _ (by show (i.val % 2 * 1024 + t.val) % 1024 = t.val; omega)]
  · refine (dif_neg h).trans ((codesFrom_at m d I hκ 28 _ _).trans ?_)
    rw [bat_of (i := i) _ _ (by show 2 * (28 + (i.val / 2 - 28)) + (i.val % 2 * 1024 + t.val) / 1024 = i.val; omega),
      pos_of (t := t) _ (by show (i.val % 2 * 1024 + t.val) % 1024 = t.val; omega)]

/-- The loss. -/
theorem kernel_loss (j : S_.Idx) : W16 m d (Proc.devRef .tc main_v13) j = (loss x w b c κ : EReal) := by
  have e : ∀ (u v : S1x1.Idx → Elt Ideal .f32), shapeCast S_ (Host.divf (F := Ideal) (φ := .f32) (addf (shapeCast S_ u shapeCasts_S1x1_S_) (shapeCast S_ v shapeCasts_S1x1_S_))
      (constant S_ .f32 0x4A000000#32)) shapeCasts_S_S_ j = Ideal.div (u (ix2 0 0) + v (ix2 0 0)) (Ideal.ofBits .f32 0x4A000000#32) := by
    intro u v; pointwise
  rw [W16_loss]
  refine (e _ _).trans ?_
  rw [acc2_coe (holds5 m d I) hκ 27 (by decide), acc0_coe (holds2 m d I) hκ 3 (by decide), ← EReal.coe_add, ofBits_count, div_coe_coe (by norm_num)]
  refine congrArg (fun y : ℝ => ((y / 2097152 : ℝ) : EReal)) ?_
  exact total x w b c κ

omit I hκ in
/-- A row of the decoded codebook. -/
theorem decoded (C : Vec Ideal S512x32 .f32) (Wd : Vec Ideal S32x96 .f32) (Bd : Vec Ideal S1x96 .f32) (hC : C = vals (W2 m) d main_arg3)
    (hW : Wd = vals (W2 m) d main_arg4) (hB : Bd = vals (W2 m) d main_v1) (k : Fin 512) (a : Fin 96) :
    ∑ e : Fin 32, C (ix2 k e) * Wd (ix2 e a) + Bd (ix2 0 a)
      = reco (m (d, Proc.devRef .tc main_arg3)) (m (d, Proc.devRef .tc main_arg4)) (m (d, Proc.devRef .tc main_arg5)) k a := by
  have e : Bd (ix2 0 a) = m (d, Proc.devRef .tc main_arg5) (ix1 a) := by
    rw [hB, W2_v1 m d]; pointwise
  rw [e, hC, hW, W2_arg m d (by decide), W2_arg m d (by decide)]
  rfl

/-- The reconstruction. -/
theorem kernel_recs (i : Fin 64) (t : Fin 1024) (a : Fin 96) : W16 m d (Proc.devRef .tc main_v6) (ix3 i t a)
    = reco (m (d, Proc.devRef .tc main_arg3)) (m (d, Proc.devRef .tc main_arg4)) (m (d, Proc.devRef .tc main_arg5)) (κ i t) a := by
  rw [W16_recs]
  by_cases hi : 56 ≤ i.val
  · refine (if_pos hi).trans ?_
    unfold tailRows
    refine (gathered_at _ _ _ (Fin.castLE (by decide : 96 ≤ 128) a) rfl (κ i t) ?_).trans ?_
    · have hr : Sc.row (ValueIdx.ix3 (Fin.ofNat 8 (i.val - 56)) t (Fin.castLE (by decide : 96 ≤ 128) a)) = (i.val - 56) * 1024 + t.val := by
        show (i.val - 56) % 8 * 1024 + t.val = _
        omega
      pointwise
      refine (codesFrom_at m d I hκ 28 _ _).trans ?_
      rw [bat_of (i := i) _ _ (by dsimp only; rw [hr]; omega), pos_of (t := t) _ (by dsimp only; rw [hr]; omega)]
    · rw [tab0_eq, table0_read]; exact decoded m d _ _ _ rfl rfl rfl _ _
  · refine (if_neg hi).trans ?_
    have e : ∀ tb, recs (vals (W2 m)) d tb (ix3 i t a) = rowsOf (code (scores (vals (W2 m)) d (i.val / 2))) tb (ix2 (Fin.ofNat 2048 (i.val % 2 * 1024 + t.val)) a) :=
      fun tb => congrArg (rowsOf _ tb) (ix2_eq_valueIdx _ _).symm
    refine (e _).trans ((rows_at _ _ _ _ (κ i t) ?_).trans ?_)
    · rw [ix1_eq_valueIdx, (code_coe (holds2 m d I) hκ _ _).1,
        bat_of (i := i) _ _ (by show 2 * (i.val / 2) + (i.val % 2 * 1024 + t.val) % 2048 / 1024 = i.val; omega),
        pos_of (t := t) _ (by show (i.val % 2 * 1024 + t.val) % 2048 % 1024 = t.val; omega)]
    · rw [tab2_eq, table2_read]; exact decoded m d _ _ _ rfl rfl rfl _ _

end

end Cert.Vq

end
-- ==== Proof.RefReads.lean ====
/-
  The reference's results as terms over its arguments.
-/
module

public import proofs.«01_k».proof.Proof.Ref

@[expose] public section

noncomputable section

namespace Cert.VqRef

open Cert.ReferenceIdeal Cert.ReferenceIdeal.Gen
open Idealize.ShloMosaic Idealize.ShloMosaic.StableHlo Idealize.ShloMosaic.TcCoe

variable {F : FTy → Type} [FloatOps F]

/-- The weight of the loss's first mean. -/
def beta : FVec F S_ .f32 := Host.divf (constant S_ .f32 0x41980000#32) (constant S_ .f32 0x41A00000#32)

/-- The latents. -/
def lats (A0 : FVec F S64x1024x96 .f32) (A1 : FVec F S96x32 .f32) (A2 : FVec F S32 .f32) : FVec F S64x1024x32 .f32 :=
  addf (Host.dotGeneral dot_S64x1024x96_S96x32_S64x1024x32_2_0_01_1_n_n none A0 A1)
    (broadcastInDim S64x1024x32 ![0, 1, 2] bcast_S1x1x32_S64x1024x32_0_1_2 (broadcastInDim S1x1x32 ![2] bcast_S32_S1x1x32_2 A2))

/-- The latents, one row a token. -/
def flat (z : FVec F S64x1024x32 .f32) : FVec F S65536x32 .f32 := shapeCast S65536x32 z shapeCasts_S64x1024x32_S65536x32

/-- Their squared distances to the codewords. -/
def dists (f : FVec F S65536x32 .f32) (A3 : FVec F S512x32 .f32) : FVec F S65536x512 .f32 :=
  addf (subf
    (broadcastInDim S65536x512 ![0, 1] bcast_S65536x1_S65536x512_0_1 (broadcastInDim S65536x1 ![0] bcast_S65536_S65536x1_0
      (Host.reduceAdd (mulf f f) (constant S_ .f32 0x00000000#32) reducesTo_S65536x32_S65536_d1 h_S_)))
    (Host.dotGeneral dot_S65536x32_S32x512_S65536x512_1_0_0_1_n_n none
      (mulf (broadcastInDim S65536x32 ![] bcast_S_S65536x32 (constant S_ .f32 0x40000000#32)) f)
      (transpose S32x512 [1, 0] A3 transposes_S512x32_S32x512_1_0)))
    (broadcastInDim S65536x512 ![0, 1] bcast_S1x512_S65536x512_0_1 (broadcastInDim S1x512 ![1] bcast_S512_S1x512_1
      (Host.reduceAdd (mulf A3 A3) (constant S_ .f32 0x00000000#32) reducesTo_S512x32_S512_d1 h_S_)))

/-- The numbers along an axis of the least entries of an array. -/
def numbers {s t u : Shape} {axes : List (Fin s.rank)} (b : Fin s.rank) (D : FVec F s .f32) (v : FVec F u .f32) (w : IVec u 32) (h : s.ReducesTo axes t) (hu : 0 < u.numel) : IVec t 32 :=
  fun j => (Host.argReduce reducer_argmin_f32_i32 D (iotaInDim s 32 b) v w h hu j).2

/-- The number of the least distance. -/
def least (D : FVec F S65536x512 .f32) : IVec S65536 32 :=
  numbers 1 D (constant S_ .f32 0x7F800000#32) (constantI S_ 32 0#32) reducesTo_S65536x512_S65536_d1 h_S_

/-- The row numbers the table is read at: a negative one counts from the end. -/
def wrapped (q : IVec S65536 32) : IVec S65536x1 32 :=
  broadcastInDim S65536x1 ![0] bcast_S65536_S65536x1_0
    (select (cmpi .slt q (broadcastInDim S65536 ![] bcast_S_S65536 (constantI S_ 32 0#32)))
      (addi q (broadcastInDim S65536 ![] bcast_S_S65536 (constantI S_ 32 512#32))) q)

/-- The rows of the codebook at the numbers, where these are in range. -/
def taken (q : IVec S65536 32) (A3 : FVec F S512x32 .f32) : FVec F S65536x32 .f32 :=
  select (broadcastInDim S65536x32 ![0] bcast_S65536_S65536x32_0
      (Host.reduce IntOp.andi (andi
          (cmpi .sge (wrapped q) (broadcastInDim S65536x1 ![] bcast_S_S65536x1 (constantI S_ 32 0#32)))
          (cmpi .sle (wrapped q) (broadcastInDim S65536x1 ![0, 1] bcast_S1x1_S65536x1_0_1 (broadcastInDim S1x1 ![1] bcast_S1_S1x1_1 (constantI S1 32 511#32)))))
        (constantI S_ 1 1#1) reducesTo_S65536x1_S65536_d1 h_S_))
    (Host.gather gather_S512x32_S65536x1_S65536x32_1_0_n_n_0_1_132 A3 (wrapped q))
    (broadcastInDim S65536x32 ![] bcast_S_S65536x32 (constant S_ .f32 0x7FC00000#32))

/-- The mean squared difference of two arrays of latents. -/
def mean (z y : FVec F S64x1024x32 .f32) : FVec F S_ .f32 :=
  Host.divf (Host.reduceAdd (mulf (subf z y) (subf z y)) (constant S_ .f32 0x00000000#32) reducesTo_S64x1024x32_S_d0_1_2 h_S_)
    (constant S_ .f32 0x4A000000#32)

/-- The loss. -/
def lossv (b : FVec F S_ .f32) (z y : FVec F S64x1024x32 .f32) : FVec F S_ .f32 :=
  addf (mulf b (mean z y)) (mulf (subf (constant S_ .f32 0x3F800000#32) b) (mean z y))

/-- The reconstruction. -/
def recos (z y : FVec F S64x1024x32 .f32) (A4 : FVec F S32x96 .f32) (A5 : FVec F S96 .f32) : FVec F S64x1024x96 .f32 :=
  addf (Host.dotGeneral dot_S64x1024x32_S32x96_S64x1024x96_2_0_01_1_n_n none (addf z (subf y z)) A4)
    (broadcastInDim S64x1024x96 ![0, 1, 2] bcast_S1x1x96_S64x1024x96_0_1_2 (broadcastInDim S1x1x96 ![2] bcast_S96_S1x1x96_2 A5))

section
variable (V : Valuation τ sig (Elt F))

theorem A_v0 : after opsA V (main_v0 : DevRef τ sig) = beta := by after_results_simp; rfl
theorem A_v4 : after opsA V (main_v4 : DevRef τ sig) = lats (V (main_arg0 : DevRef τ sig)) (V (main_arg1 : DevRef τ sig)) (V (main_arg2 : DevRef τ sig)) := by
  after_results_simp; rfl
theorem A_v19 : after opsA V (main_v19 : DevRef τ sig)
    = dists (flat (lats (V (main_arg0 : DevRef τ sig)) (V (main_arg1 : DevRef τ sig)) (V (main_arg2 : DevRef τ sig)))) (V (main_arg3 : DevRef τ sig)) := by
  after_results_simp; rfl
theorem A_arg3 : after opsA V (main_arg3 : DevRef τ sig) = V (main_arg3 : DevRef τ sig) := by after_results_simp
theorem A_arg4 : after opsA V (main_arg4 : DevRef τ sig) = V (main_arg4 : DevRef τ sig) := by after_results_simp
theorem A_arg5 : after opsA V (main_arg5 : DevRef τ sig) = V (main_arg5 : DevRef τ sig) := by after_results_simp

theorem B_v20 : after opsB V (main_v20 : DevRef τ sig) = least (V (main_v19 : DevRef τ sig)) := by after_results_simp; rfl
attribute [local irreducible] select addi andi cmpi broadcastInDim Host.reduce Host.gather Host.argReduce in
theorem B_v21 : after opsB V (main_v21 : DevRef τ sig) = taken (least (V (main_v19 : DevRef τ sig))) (V (main_arg3 : DevRef τ sig)) := by
  after_results_simp
  simp only [TRef.ofBuf_toBuf]
  unfold taken wrapped least
  rfl
theorem B_v0 : after opsB V (main_v0 : DevRef τ sig) = V (main_v0 : DevRef τ sig) := by after_results_simp
theorem B_v4 : after opsB V (main_v4 : DevRef τ sig) = V (main_v4 : DevRef τ sig) := by after_results_simp
theorem B_arg4 : after opsB V (main_arg4 : DevRef τ sig) = V (main_arg4 : DevRef τ sig) := by after_results_simp
theorem B_arg5 : after opsB V (main_arg5 : DevRef τ sig) = V (main_arg5 : DevRef τ sig) := by after_results_simp

theorem C_v41 : after opsC V (main_v41 : DevRef τ sig) = shapeCast S64x1024 (V (main_v20 : DevRef τ sig)) shapeCasts_S65536_S64x1024 := by after_results_simp; rfl
theorem C_v34 : after opsC V (main_v34 : DevRef τ sig) = lossv (V (main_v0 : DevRef τ sig)) (V (main_v4 : DevRef τ sig))
    (shapeCast S64x1024x32 (V (main_v21 : DevRef τ sig)) shapeCasts_S65536x32_S64x1024x32) := by after_results_simp; rfl
theorem C_v40 : after opsC V (main_v40 : DevRef τ sig) = recos (V (main_v4 : DevRef τ sig))
    (shapeCast S64x1024x32 (V (main_v21 : DevRef τ sig)) shapeCasts_S65536x32_S64x1024x32) (V (main_arg4 : DevRef τ sig)) (V (main_arg5 : DevRef τ sig)) := by
  after_results_simp; rfl

/-- The latents of the arguments. -/
def zs : FVec F S64x1024x32 .f32 := lats (V (main_arg0 : DevRef τ sig)) (V (main_arg1 : DevRef τ sig)) (V (main_arg2 : DevRef τ sig))

/-- The codes of the arguments. -/
def qs : IVec S65536 32 := least (dists (flat (zs V)) (V (main_arg3 : DevRef τ sig)))

/-- The rows of the arguments. -/
def ys : FVec F S64x1024x32 .f32 := shapeCast S64x1024x32 (taken (qs V) (V (main_arg3 : DevRef τ sig))) shapeCasts_S65536x32_S64x1024x32

theorem codes_eq : after ops V (main_v41 : DevRef τ sig) = shapeCast S64x1024 (qs V) shapeCasts_S65536_S64x1024 := by
  rw [after_parts, after_parts, C_v41, B_v20, A_v19]; rfl
theorem loss_eq : after ops V (main_v34 : DevRef τ sig) = lossv beta (zs V) (ys V) := by
  rw [after_parts, after_parts, C_v34, B_v0, B_v4, B_v21, A_v0, A_v4, A_v19, A_arg3]; rfl
theorem recos_eq : after ops V (main_v40 : DevRef τ sig) = recos (zs V) (ys V) (V (main_arg4 : DevRef τ sig)) (V (main_arg5 : DevRef τ sig)) := by
  rw [after_parts, after_parts, C_v40, B_v4, B_v21, B_arg4, B_arg5, A_v4, A_v19, A_arg3, A_arg4, A_arg5]; rfl

end

end Cert.VqRef

end
-- ==== Proof.Argmin.lean ====
/-
  The reference's search over the extended reals: the first of the least distances.
-/
module

public import proofs.«01_k».proof.Proof.RefReads
public import proofs.«01_k».proof.Proof.Spec
public import Idealize.ShloMosaic.PureOps.Ideal.Laws
public import Idealize.ShloMosaic.Lib.StableHlo.Predicate

@[expose] public section

set_option maxRecDepth 16384

noncomputable section

namespace Cert.VqRef

open Cert.ReferenceIdeal Cert.ReferenceIdeal.Gen Cert.Quant
open Idealize.ShloMosaic

/-- A pair of a value and a number comes before another. -/
def Before (p q : EReal × BitVec 32) : Prop := p.1 < q.1 ∨ p.1 = q.1 ∧ p.2.slt q.2 = true

theorem Before.irrefl {p : EReal × BitVec 32} : ¬ Before p p := by
  rintro (h | ⟨-, h⟩)
  · exact lt_irrefl _ h
  · simp [BitVec.slt] at h

theorem Before.asymm {p q : EReal × BitVec 32} (h : Before p q) : ¬ Before q p := by
  rintro (h' | ⟨e', h'⟩) <;> rcases h with h | ⟨e, h⟩
  · exact lt_asymm h h'
  · exact absurd e (ne_of_gt h')
  · exact absurd e' (ne_of_gt h)
  · simp only [BitVec.slt, decide_eq_true_eq] at h h'; omega

/-- A step of the search keeps the earlier pair. -/
theorem step (p q : EReal × BitVec 32) [Decidable (Before p q)] :
    (reducer_argmin_f32_i32 (F := Ideal) p q : EReal × BitVec 32) = if Before p q then p else q := by
  obtain ⟨a, i⟩ := p
  obtain ⟨b, j⟩ := q
  show ((Scalar.select (IntOp.ori (Ideal.cmp .olt a b) (Ideal.cmp .une a a)) a b, Scalar.select (IntOp.ori (IntOp.ori (Ideal.cmp .olt a b) (Ideal.cmp .une a a)) (IntOp.andi (Ideal.cmp .oeq a b) (IntOp.cmpi .slt i j))) i j) : EReal × BitVec 32) = _
  unfold Before
  by_cases h1 : a < b
  · have hor : ∀ x : BitVec 1, 1#1 ||| x = 1#1 := by decide
    simp [Ideal.cmp, IntOp.ori, IntOp.andi, Scalar.select, h1, hor]
  · by_cases h2 : a = b
    · subst h2
      by_cases h3 : i.slt j <;> simp [Ideal.cmp, IntOp.ori, IntOp.andi, IntOp.cmpi, Scalar.select, h3]
    · simp [Ideal.cmp, IntOp.ori, IntOp.andi, Scalar.select, h1, h2]

/-- The search ends at the pair that comes before all others. -/
theorem search (p : EReal × BitVec 32) (l : List (EReal × BitVec 32)) : ∀ acc : EReal × BitVec 32,
    (acc = p ∨ p ∈ l) → (acc = p ∨ Before p acc) → (∀ q ∈ l, q = p ∨ Before p q) →
    l.foldl (reducer_argmin_f32_i32 (F := Ideal)) acc = p := by
  classical
  induction l with
  | nil => intro acc h _ _; simpa using h
  | cons q l ih =>
    intro acc hm ha hl
    rw [List.foldl_cons]
    have hq := hl q List.mem_cons_self
    have hl' : ∀ r ∈ l, r = p ∨ Before p r := fun r hr => hl r (List.mem_cons_of_mem _ hr)
    rcases ha with rfl | ha
    · have e : (reducer_argmin_f32_i32 (F := Ideal) acc q : EReal × BitVec 32) = acc := by
        rw [step]; rcases hq with rfl | hq
        · exact ite_self _
        · exact if_pos hq
      exact (congrArg (fun r : EReal × BitVec 32 => l.foldl (reducer_argmin_f32_i32 (F := Ideal)) r) e).trans (ih acc (.inl rfl) (.inl rfl) hl')
    · rcases hq with rfl | hq
      · have e : (reducer_argmin_f32_i32 (F := Ideal) acc q : EReal × BitVec 32) = q := by
          rw [step]; exact if_neg ha.asymm
        exact (congrArg (fun r : EReal × BitVec 32 => l.foldl (reducer_argmin_f32_i32 (F := Ideal)) r) e).trans (ih q (.inl rfl) (.inl rfl) hl')
      · have hp : p ∈ l := by
          rcases hm with e | h
          · exact absurd (e ▸ ha) Before.irrefl
          · rcases List.mem_cons.1 h with e | h
            · exact absurd (e ▸ hq) Before.irrefl
            · exact h
        refine ih _ (.inr hp) ?_ hl'
        rw [step]
        split
        · exact .inr ha
        · exact .inr hq

/-- The search along a row whose entry at `κ` comes before its other entries and before the start. -/
theorem row {N M : ℕ} {u : Shape} {axes : List (Fin 2)} (b : Fin 2) (hb : b = 1) (D : FVec Ideal ⟨2, ![N, M]⟩ .f32) (v0 : FVec Ideal u .f32) (w0 : IVec u 32)
    (h : (⟨2, ![N, M]⟩ : Shape).ReducesTo axes ⟨1, ![N]⟩) (hdrop : ∀ (n : Fin N) (k : Fin M), h.drop (ix2 n k) = ix1 n) (hu : 0 < u.numel)
    (n : Fin N) (δ : Fin M → EReal) (hD : ∀ k, D (ix2 n k) = δ k) (κ : Fin M)
    (h0 : Before (δ κ, BitVec.ofNat 32 κ.val) (v0 (Shape.Idx.first hu), w0 (Shape.Idx.first hu)))
    (hlt : ∀ k, κ = k ∨ Before (δ κ, BitVec.ofNat 32 κ.val) (δ k, BitVec.ofNat 32 k.val)) :
    numbers b D v0 w0 h hu (ix1 n) = BitVec.ofNat 32 κ.val := by
  subst hb
  unfold numbers
  rw [Ideal.argReduce_eq_reduce2, Host.reduce2_eq_foldl_fiber]
  refine congrArg Prod.snd (search (δ κ, BitVec.ofNat 32 κ.val) _ _ (.inr ?_) (.inr h0) ?_)
  · refine List.mem_map.2 ⟨(⟨2, ![N, M]⟩ : Shape).rowMajor (ix2 n κ), List.mem_filter.2 ⟨List.mem_finRange _, ?_⟩, ?_⟩
    · rw [Equiv.symm_apply_apply]; exact decide_eq_true (hdrop n κ)
    · rw [Equiv.symm_apply_apply, hD]; rfl
  · intro q hq
    obtain ⟨i, hi, rfl⟩ := List.mem_map.1 hq
    have hd := of_decide_eq_true (List.mem_filter.1 hi).2
    obtain ⟨n', k, e⟩ : ∃ n' k, (⟨2, ![N, M]⟩ : Shape).rowMajor.symm i = ix2 n' k := ⟨_, _, eq_ix2 _⟩
    rw [e, hdrop] at hd
    have hn : n' = n := congrFun hd 0
    subst hn
    rw [e, hD]
    rcases hlt k with h | h
    · subst h; exact .inl rfl
    · exact .inr h

theorem ofBits_top : Ideal.ofBits .f32 0x7F800000#32 = (⊤ : EReal) := by simp [Ideal.ofBits, Ideal.ieee]

theorem start_top (i : S_.Idx) : (constant S_ .f32 0x7F800000#32 : FVec Ideal S_ .f32) i = (⊤ : EReal) := by
  rw [constant_apply]; exact ofBits_top

theorem before_start (r : ℝ) (k : BitVec 32) (i : S_.Idx) : Before ((r : EReal), k) ((constant S_ .f32 0x7F800000#32 : FVec Ideal S_ .f32) i, constantI S_ 32 0#32 i) := by
  rw [start_top]; exact .inl (EReal.coe_lt_top _)

theorem before_of {c : Fin 512 → Fin 32 → ℝ} {z : Fin 32 → ℝ} {κ : Fin 512} (hκ : Nearest c z κ) (k : Fin 512) :
    κ = k ∨ Before ((Quant.dist c z κ : EReal), BitVec.ofNat 32 κ.val) ((Quant.dist c z k : EReal), BitVec.ofNat 32 k.val) := by
  rcases lt_trichotomy κ k with h | h | h
  · rcases lt_or_eq_of_le (hκ.1 k) with hs | hs
    · exact .inr (.inl (EReal.coe_lt_coe_iff.2 (sub_lt_sub_left hs _)))
    · refine .inr (.inr ⟨by unfold Quant.dist; rw [hs], ?_⟩)
      exact (StableHlo.Predicate.ofBool_eq_one_iff _).1 ((StableHlo.Predicate.slt_ofNat_iff _ _ (lt_trans κ.isLt (by norm_num)) (lt_trans k.isLt (by norm_num))).2 h)
  · exact .inl h
  · exact .inr (.inl (EReal.coe_lt_coe_iff.2 (sub_lt_sub_left (hκ.2 k h) _)))

/-- The number of the least distance, where the distances are real and codeword `κ` is the nearest. -/
theorem least_eq (D : FVec Ideal S65536x512 .f32) (n : Fin 65536) (c : Fin 512 → Fin 32 → ℝ) (z : Fin 32 → ℝ)
    (hD : ∀ k, D (ix2 n k) = (Quant.dist c z k : EReal)) (κ : Fin 512) (hκ : Nearest c z κ) :
    least D (ix1 n) = BitVec.ofNat 32 κ.val := by
  unfold least
  refine row _ ?_ _ _ _ _ ?_ _ _ (fun k => (Quant.dist c z k : EReal)) hD κ (before_start _ _ _) (before_of hκ)
  · rfl
  · intro n k
    funext a
    match a with
    | ⟨0, _⟩ => exact Fin.ext (Shape.ReducesTo.drop_apply_val_of_eq _ (ix2 n k) 0 0 (by show 0 < 1; decide) rfl)

end Cert.VqRef

end
-- ==== Proof.RefValues.lean ====
/-
  The three results of the reference, of finite tokens, encoder and codebook.
-/
module

public import proofs.«01_k».proof.Proof.Argmin
public import Idealize.ShloMosaic.Lib.Pointwise.IndexBridge
public import Idealize.ShloMosaic.Lib.Routing.Ops
public import Idealize.ShloMosaic.Lib.Routing.OpsPair

@[expose] public section

set_option maxRecDepth 16384

noncomputable section

namespace Cert.VqRef

open Cert.ReferenceIdeal Cert.ReferenceIdeal.Gen Cert.Quant
open Idealize.ShloMosaic Idealize.ShloMosaic.TcCoe

/-! ### The terms, read at an index -/

theorem lats_read (A0 : FVec Ideal S64x1024x96 .f32) (A1 : FVec Ideal S96x32 .f32) (A2 : FVec Ideal S32 .f32) (i : Fin 64) (t : Fin 1024) (e : Fin 32) :
    lats A0 A1 A2 (ix3 i t e) = ∑ a, A0 (ix3 i t a) * A1 (ix2 a e) + A2 (ix1 e) := by
  pointwise [lats]

theorem flat_read (z : FVec Ideal S64x1024x32 .f32) (n : Fin 65536) (e : Fin 32) :
    flat z (ix2 n e) = z (ix3 ⟨n.val / 1024, by omega⟩ ⟨n.val % 1024, by omega⟩ e) := by
  pointwise [flat]

theorem dists_read (f : FVec Ideal S65536x32 .f32) (A3 : FVec Ideal S512x32 .f32) (n : Fin 65536) (k : Fin 512) :
    dists f A3 (ix2 n k) = ∑ e, f (ix2 n e) * f (ix2 n e) - ∑ e, Ideal.ofBits .f32 0x40000000#32 * f (ix2 n e) * A3 (ix2 k e) + ∑ e, A3 (ix2 k e) * A3 (ix2 k e) := by
  pointwise [dists]

theorem wrapped_read (q : IVec S65536 32) (n : Fin 65536) (o : Fin 1) :
    wrapped q (ix2 n o) = Scalar.select (IntOp.cmpi .slt (q (ix1 n)) 0#32) (IntOp.addi (q (ix1 n)) 512#32) (q (ix1 n)) := by
  pointwise [wrapped]

theorem mean_read (z y : FVec Ideal S64x1024x32 .f32) (j : S_.Idx) : mean z y j
    = Ideal.div (∑ i, ∑ t, ∑ e, (z (ix3 i t e) - y (ix3 i t e)) * (z (ix3 i t e) - y (ix3 i t e))) (Ideal.ofBits .f32 0x4A000000#32) := by
  pointwise [mean]

theorem lossv_read (z y : FVec Ideal S64x1024x32 .f32) (j : S_.Idx) : lossv beta z y j
    = Ideal.div (Ideal.ofBits .f32 0x41980000#32) (Ideal.ofBits .f32 0x41A00000#32) * mean z y j
      + (1 - Ideal.div (Ideal.ofBits .f32 0x41980000#32) (Ideal.ofBits .f32 0x41A00000#32)) * mean z y j := by
  pointwise [lossv, beta]

theorem recos_read (z y : FVec Ideal S64x1024x32 .f32) (A4 : FVec Ideal S32x96 .f32) (A5 : FVec Ideal S96 .f32) (i : Fin 64) (t : Fin 1024) (a : Fin 96) :
    recos z y A4 A5 (ix3 i t a) = ∑ e, (z (ix3 i t e) + (y (ix3 i t e) - z (ix3 i t e))) * A4 (ix2 e a) + A5 (ix1 a) := by
  pointwise [recos]

theorem codes_read (q : IVec S65536 32) (i : Fin 64) (t : Fin 1024) :
    shapeCast S64x1024 q shapeCasts_S65536_S64x1024 (ix2 i t) = q (ix1 ⟨i.val * 1024 + t.val, by omega⟩) := by
  pointwise []

theorem rows_read (y : FVec Ideal S65536x32 .f32) (i : Fin 64) (t : Fin 1024) (e : Fin 32) :
    shapeCast S64x1024x32 y shapeCasts_S65536x32_S64x1024x32 (ix3 i t e) = y (ix2 ⟨i.val * 1024 + t.val, by omega⟩ e) := by
  pointwise []

theorem taken_read (q : IVec S65536 32) (A3 : FVec Ideal S512x32 .f32) (n : Fin 65536) (e : Fin 32) : taken q A3 (ix2 n e)
    = Scalar.select (Finset.fold IntOp.andi 1#1 (fun o : Fin 1 => IntOp.andi (IntOp.cmpi .sge (wrapped q (ix2 n o)) 0#32) (IntOp.cmpi .sle (wrapped q (ix2 n o)) 511#32)) Finset.univ)
      (Host.gather gather_S512x32_S65536x1_S65536x32_1_0_n_n_0_1_132 A3 (wrapped q) (ix2 n e)) (Ideal.ofBits .f32 0x7FC00000#32) := by
  pointwise [taken]

/-- A row number in range is kept. -/
theorem wrapped_at (q : IVec S65536 32) (n : Fin 65536) (o : Fin 1) (k : Fin 512) (hk : q (ix1 n) = BitVec.ofNat 32 k.val) : wrapped q (ix2 n o) = BitVec.ofNat 32 k.val := by
  rw [wrapped_read, hk]
  refine Routing.wrap_of_lt _ _ ?_
  rw [BitVec.toNat_ofNat]
  omega

/-- The row of a number in range. -/
theorem taken_at (q : IVec S65536 32) (A3 : FVec Ideal S512x32 .f32) (n : Fin 65536) (e : Fin 32) (k : Fin 512) (hk : q (ix1 n) = BitVec.ofNat 32 k.val) :
    taken q A3 (ix2 n e) = A3 (ix2 k e) := by
  have hlo : IntOp.cmpi .sge (BitVec.ofNat 32 k.val) 0#32 = 1#1 := (StableHlo.Predicate.sge_iff_toNat (by rw [BitVec.toNat_ofNat]; omega) (by decide)).2 (Nat.zero_le _)
  have hhi : IntOp.cmpi .sle (BitVec.ofNat 32 k.val) 511#32 = 1#1 := (StableHlo.Predicate.sle_iff_toNat (by rw [BitVec.toNat_ofNat]; omega) (by decide)).2 (by
    rw [BitVec.toNat_ofNat]; show k.val % 2 ^ 32 ≤ 511; omega)
  have hm : (Finset.fold IntOp.andi 1#1 (fun o : Fin 1 => IntOp.andi (IntOp.cmpi .sge (wrapped q (ix2 n o)) 0#32) (IntOp.cmpi .sle (wrapped q (ix2 n o)) 511#32)) Finset.univ) = 1#1 := by
    simp only [wrapped_at q n _ k hk, hlo, hhi]
    decide
  rw [taken_read, hm]
  refine Eq.trans (b := Host.gather gather_S512x32_S65536x1_S65536x32_1_0_n_n_0_1_132 A3 (wrapped q) (ix2 n e)) rfl ?_
  rw [ix2_eq_valueIdx, ix2_eq_valueIdx]
  refine Routing.gather_row _ rfl rfl rfl rfl rfl A3 (wrapped q) n e k ?_ (by norm_num)
  rw [← ix2_eq_valueIdx]
  exact wrapped_at q n 0 k hk

/-! ### Their values -/

section
variable {A0 : FVec Ideal S64x1024x96 .f32} {A1 : FVec Ideal S96x32 .f32} {A2 : FVec Ideal S32 .f32} {A3 : FVec Ideal S512x32 .f32}
  {x : Fin 64 → Fin 1024 → Fin 96 → ℝ} {w : Fin 96 → Fin 32 → ℝ} {b : Fin 32 → ℝ} {c : Fin 512 → Fin 32 → ℝ} (I : Inputs A0 A1 A2 A3 x w b c)
include I

theorem lats_coe (i : Fin 64) (t : Fin 1024) (e : Fin 32) : lats A0 A1 A2 (ix3 i t e) = (lat (x i t) w b e : EReal) := by
  rw [lats_read]
  simp only [I.x, I.w, I.b, ← EReal.coe_mul, ← coe_sum, ← EReal.coe_add]
  rfl

theorem dists_coe (i : Fin 64) (t : Fin 1024) (n : Fin 65536) (hn : n.val = i.val * 1024 + t.val) (k : Fin 512) :
    dists (flat (lats A0 A1 A2)) A3 (ix2 n k) = (Quant.dist c (lat (x i t) w b) k : EReal) := by
  have hi : (⟨n.val / 1024, by omega⟩ : Fin 64) = i := Fin.ext (by show n.val / 1024 = i.val; omega)
  have ht : (⟨n.val % 1024, by omega⟩ : Fin 1024) = t := Fin.ext (by show n.val % 1024 = t.val; omega)
  have hf : ∀ e, flat (lats A0 A1 A2) (ix2 n e) = (lat (x i t) w b e : EReal) := fun e => by rw [flat_read, hi, ht, lats_coe I]
  rw [dists_read]
  simp only [hf, I.c, ofBits_two, ← EReal.coe_mul, ← coe_sum, ← EReal.coe_add, ← EReal.coe_sub]
  refine congrArg Real.toEReal ?_
  unfold Quant.dist score
  rw [sub_sub_eq_add_sub, add_sub_right_comm]
  exact congrArg (fun y : ℝ => (∑ e, lat (x i t) w b e * lat (x i t) w b e) - y + ∑ e, c k e * c k e) (Finset.sum_congr rfl fun e _ => by ring)

variable {κ : Fin 64 → Fin 1024 → Fin 512} (hκ : ∀ i t, Nearest c (lat (x i t) w b) (κ i t))
include hκ

theorem codes_at (i : Fin 64) (t : Fin 1024) (n : Fin 65536) (hn : n.val = i.val * 1024 + t.val) :
    least (dists (flat (lats A0 A1 A2)) A3) (ix1 n) = BitVec.ofNat 32 (κ i t).val :=
  least_eq _ n c (lat (x i t) w b) (dists_coe I i t n hn) _ (hκ i t)

theorem rows_coe (i : Fin 64) (t : Fin 1024) (e : Fin 32) :
    shapeCast S64x1024x32 (taken (least (dists (flat (lats A0 A1 A2)) A3)) A3) shapeCasts_S65536x32_S64x1024x32 (ix3 i t e) = (c (κ i t) e : EReal) := by
  rw [rows_read, taken_at _ _ _ _ _ (codes_at I hκ i t _ rfl), I.c]

end

/-- The loss of real latents and rows. -/
theorem lossv_coe {x : Fin 64 → Fin 1024 → Fin 96 → ℝ} {w : Fin 96 → Fin 32 → ℝ} {b : Fin 32 → ℝ} {c : Fin 512 → Fin 32 → ℝ} {κ : Fin 64 → Fin 1024 → Fin 512}
    (z y : FVec Ideal S64x1024x32 .f32) (hz : ∀ i t e, z (ix3 i t e) = (lat (x i t) w b e : EReal)) (hy : ∀ i t e, y (ix3 i t e) = (c (κ i t) e : EReal)) (j : S_.Idx) :
    lossv beta z y j = (loss x w b c κ : EReal) := by
  have hm : mean z y j = (loss x w b c κ : EReal) := by
    rw [mean_read]
    simp only [hz, hy, ← EReal.coe_mul, ← coe_sum, ← EReal.coe_sub, ofBits_count]
    rw [div_coe_coe (by norm_num)]
    unfold loss
    simp only [dist_eq]
  rw [lossv_read, hm, ofBits_nineteen, ofBits_twenty, div_coe_coe (by norm_num), ← EReal.coe_one, ← EReal.coe_sub, ← EReal.coe_mul, ← EReal.coe_mul, ← EReal.coe_add]
  exact congrArg Real.toEReal (by ring)

/-- The reconstruction of real latents and rows. -/
theorem recos_coe {A3 : FVec Ideal S512x32 .f32} (z y : FVec Ideal S64x1024x32 .f32) (A4 : FVec Ideal S32x96 .f32) (A5 : FVec Ideal S96 .f32) (i : Fin 64) (t : Fin 1024) (a : Fin 96)
    (u v : Fin 32 → ℝ) (k : Fin 512) (hz : ∀ e, z (ix3 i t e) = (u e : EReal)) (hy : ∀ e, y (ix3 i t e) = (v e : EReal)) (hc : ∀ e, A3 (ix2 k e) = (v e : EReal)) :
    recos z y A4 A5 (ix3 i t a) = reco A3 A4 A5 k a := by
  rw [recos_read]
  unfold reco
  refine congrArg (fun s : EReal => s + A5 (ix1 a)) (Finset.sum_congr rfl fun e _ => ?_)
  rw [hz, hy, hc, ← EReal.coe_sub, ← EReal.coe_add, add_sub_cancel]

/-! ### The results -/

section
variable (V : Valuation τ sig (Elt Ideal))
  {x : Fin 64 → Fin 1024 → Fin 96 → ℝ} {w : Fin 96 → Fin 32 → ℝ} {b : Fin 32 → ℝ} {c : Fin 512 → Fin 32 → ℝ}
  (I : Inputs (V (main_arg0 : DevRef τ sig)) (V (main_arg1 : DevRef τ sig)) (V (main_arg2 : DevRef τ sig)) (V (main_arg3 : DevRef τ sig)) x w b c)
  {κ : Fin 64 → Fin 1024 → Fin 512} (hκ : ∀ i t, Nearest c (lat (x i t) w b) (κ i t))
include I hκ

theorem ref_codes (i : Fin 64) (t : Fin 1024) : shapeCast S64x1024 (qs V) shapeCasts_S65536_S64x1024 (ix2 i t) = BitVec.ofNat 32 (κ i t).val := by
  rw [codes_read]
  exact codes_at I hκ i t _ rfl

theorem ref_loss (j : S_.Idx) : lossv beta (zs V) (ys V) j = (loss x w b c κ : EReal) :=
  lossv_coe (zs V) (ys V) (lats_coe I) (rows_coe I hκ) j

theorem ref_recs (i : Fin 64) (t : Fin 1024) (a : Fin 96) : recos (zs V) (ys V) (V (main_arg4 : DevRef τ sig)) (V (main_arg5 : DevRef τ sig)) (ix3 i t a)
    = reco (V (main_arg3 : DevRef τ sig)) (V (main_arg4 : DevRef τ sig)) (V (main_arg5 : DevRef τ sig)) (κ i t) a :=
  recos_coe (zs V) (ys V) _ _ i t a (lat (x i t) w b) (c (κ i t)) (κ i t) (lats_coe I i t) (rows_coe I hκ i t) (I.c (κ i t))

end

/-- The three results, whatever the arguments are known as. -/
theorem ref_all {A0 : FVec Ideal S64x1024x96 .f32} {A1 : FVec Ideal S96x32 .f32} {A2 : FVec Ideal S32 .f32} {A3 : FVec Ideal S512x32 .f32} {A4 : FVec Ideal S32x96 .f32} {A5 : FVec Ideal S96 .f32}
    (V : Valuation τ sig (Elt Ideal)) (h0 : V (main_arg0 : DevRef τ sig) = A0) (h1 : V (main_arg1 : DevRef τ sig) = A1) (h2 : V (main_arg2 : DevRef τ sig) = A2)
    (h3 : V (main_arg3 : DevRef τ sig) = A3) (h4 : V (main_arg4 : DevRef τ sig) = A4) (h5 : V (main_arg5 : DevRef τ sig) = A5)
    {x : Fin 64 → Fin 1024 → Fin 96 → ℝ} {w : Fin 96 → Fin 32 → ℝ} {b : Fin 32 → ℝ} {c : Fin 512 → Fin 32 → ℝ} (I : Inputs A0 A1 A2 A3 x w b c)
    {κ : Fin 64 → Fin 1024 → Fin 512} (hκ : ∀ i t, Nearest c (lat (x i t) w b) (κ i t)) :
    (∀ i t a, recos (zs V) (ys V) (V (main_arg4 : DevRef τ sig)) (V (main_arg5 : DevRef τ sig)) (ix3 i t a) = reco A3 A4 A5 (κ i t) a)
      ∧ (∀ j, lossv beta (zs V) (ys V) j = (loss x w b c κ : EReal))
      ∧ ∀ i t, shapeCast S64x1024 (qs V) shapeCasts_S65536_S64x1024 (ix2 i t) = BitVec.ofNat 32 (κ i t).val := by
  subst h0 h1 h2 h3 h4 h5
  exact ⟨ref_recs V I hκ, ref_loss V I hκ, ref_codes V I hκ⟩

end Cert.VqRef

end
-- ==== Proof.Finite.lean ====
/-
  Of finite arguments: their entries are reals.
-/
module

public import proofs.«01_k».proof.Proof.Spec
public import proofs.«01_k».proof.Proof.Gen.Pre_finite
public import Idealize.ShloMosaic.Lib.ReduceAll
public import Idealize.ShloMosaic.PureOps.Ideal.Laws

@[expose] public section

set_option maxRecDepth 16384

noncomputable section

namespace Cert.VqFin

open Cert.Pre_finite Cert.Pre_finite.Gen Cert.Quant
open Idealize.ShloMosaic

theorem andi_one {a b : BitVec 1} (h : IntOp.andi a b = 1#1) : a = 1#1 ∧ b = 1#1 := by
  revert a b; decide

/-- An entry whose magnitude compares below infinity is a real. -/
theorem real_of_lt {a : EReal} (h : Ideal.cmp .olt (max a (-a)) (Ideal.ofBits .f32 0x7F800000#32) = 1#1) : a = (a.toReal : EReal) := by
  rw [show Ideal.ofBits .f32 0x7F800000#32 = (⊤ : EReal) from by simp [Ideal.ofBits, Ideal.ieee]] at h
  have hlt : max a (-a) < ⊤ := by
    by_contra hn
    simp [Ideal.cmp, hn] at h
  refine (EReal.coe_toReal ?_ ?_).symm
  · rintro rfl; simp at hlt
  · rintro rfl; simp at hlt

/-- An array whose entries are all below infinity in magnitude holds reals. -/
theorem real_of_all {s : Shape} {axes : List (Fin s.rank)} (A : FVec Ideal s .f32) (hb : S_.BroadcastsInDim s (![] : Fin 0 → Fin s.rank)) (hr : s.ReducesTo axes S_) (h1 : 0 < S_.numel)
    (j : S_.Idx) (h : Host.reduce IntOp.andi (cmpf .olt (Host.absf A) (broadcastInDim s ![] hb (constant S_ .f32 0x7F800000#32))) (constantI S_ 1 1#1) hr h1 j = 1#1) (i : s.Idx) :
    A i = ((A i).toReal : EReal) := by
  haveI : Subsingleton S_.Idx := ⟨fun a b => funext fun d => d.elim0⟩
  exact real_of_lt (Host.reduce_andi_all _ _ hr h1 j h i)

/-- Under the precondition the arguments hold reals. -/
theorem inputs (A0 : FVec Ideal S64x1024x96 .f32) (A1 : FVec Ideal S96x32 .f32) (A2 : FVec Ideal S32 .f32) (A3 : FVec Ideal S512x32 .f32) (A4 : FVec Ideal S32x96 .f32) (A5 : FVec Ideal S96 .f32)
    (h : fn A0 A1 A2 A3 A4 A5 = fun _ => 1#1) :
    ∃ x w b c, Inputs A0 A1 A2 A3 x w b c := by
  let j : S_.Idx := fun a => a.elim0
  obtain ⟨h, h3⟩ := andi_one (congrFun h j)
  obtain ⟨h, h2⟩ := andi_one h
  obtain ⟨h0, h1⟩ := andi_one h
  exact ⟨fun i t a => (A0 (ix3 i t a)).toReal, fun a e => (A1 (ix2 a e)).toReal, fun e => (A2 (ix1 e)).toReal, fun k e => (A3 (ix2 k e)).toReal,
    fun i t a => real_of_all A0 _ _ _ j h0 _, fun a e => real_of_all A1 _ _ _ j h1 _, fun e => real_of_all A2 _ _ _ j h2 _, fun k e => real_of_all A3 _ _ _ j h3 _⟩

end Cert.VqFin

end
-- ==== Proof.Meet.lean ====
/-
  The two programs' results are the same arrays, of finite tokens, encoder and codebook.
-/
module

public import proofs.«01_k».proof.Proof.Results
public import proofs.«01_k».proof.Proof.RefValues
public import proofs.«01_k».proof.Proof.Finite

@[expose] public section

set_option maxRecDepth 16384

noncomputable section

namespace Cert.VqMeet

open Cert.Quant
open Idealize.ShloMosaic Idealize.ShloMosaic.StableHlo Idealize.ShloMosaic.TcCoe

variable (m : (ℓ : Loc KernelIdeal.nD KernelIdeal.τ KernelIdeal.sig) → Buf (Elt Ideal) ℓ) (d : Dev KernelIdeal.nD)
  (V : Valuation ReferenceIdeal.τ ReferenceIdeal.sig (Elt Ideal))
  (h0 : V (ReferenceIdeal.main_arg0 : DevRef ReferenceIdeal.τ ReferenceIdeal.sig) = m (d, Proc.devRef .tc KernelIdeal.main_arg0))
  (h1 : V (ReferenceIdeal.main_arg1 : DevRef ReferenceIdeal.τ ReferenceIdeal.sig) = m (d, Proc.devRef .tc KernelIdeal.main_arg1))
  (h2 : V (ReferenceIdeal.main_arg2 : DevRef ReferenceIdeal.τ ReferenceIdeal.sig) = m (d, Proc.devRef .tc KernelIdeal.main_arg2))
  (h3 : V (ReferenceIdeal.main_arg3 : DevRef ReferenceIdeal.τ ReferenceIdeal.sig) = m (d, Proc.devRef .tc KernelIdeal.main_arg3))
  (h4 : V (ReferenceIdeal.main_arg4 : DevRef ReferenceIdeal.τ ReferenceIdeal.sig) = m (d, Proc.devRef .tc KernelIdeal.main_arg4))
  (h5 : V (ReferenceIdeal.main_arg5 : DevRef ReferenceIdeal.τ ReferenceIdeal.sig) = m (d, Proc.devRef .tc KernelIdeal.main_arg5))
  (hpre : Pre_finite.fn (F := Ideal) (m (d, Proc.devRef .tc KernelIdeal.main_arg0)) (m (d, Proc.devRef .tc KernelIdeal.main_arg1)) (m (d, Proc.devRef .tc KernelIdeal.main_arg2))
    (m (d, Proc.devRef .tc KernelIdeal.main_arg3)) (m (d, Proc.devRef .tc KernelIdeal.main_arg4)) (m (d, Proc.devRef .tc KernelIdeal.main_arg5)) = fun _ => 1#1)
include h0 h1 h2 h3 h4 h5 hpre

theorem meet :
    after VqRef.ops V (ReferenceIdeal.main_v40 : DevRef ReferenceIdeal.τ ReferenceIdeal.sig) = Vq.W16 m d (Proc.devRef .tc KernelIdeal.main_v6)
    ∧ after VqRef.ops V (ReferenceIdeal.main_v34 : DevRef ReferenceIdeal.τ ReferenceIdeal.sig) = Vq.W16 m d (Proc.devRef .tc KernelIdeal.main_v13)
    ∧ after VqRef.ops V (ReferenceIdeal.main_v41 : DevRef ReferenceIdeal.τ ReferenceIdeal.sig) = Vq.W16 m d (Proc.devRef .tc KernelIdeal.main_v8) := by
  obtain ⟨x, w, b, c, I⟩ := VqFin.inputs _ _ _ _ _ _ hpre
  obtain ⟨κ, hκ⟩ : ∃ κ : Fin 64 → Fin 1024 → Fin 512, ∀ i t, Nearest c (lat (x i t) w b) (κ i t) :=
    ⟨fun i t => (Nearest.exists c (lat (x i t) w b)).choose, fun i t => (Nearest.exists c (lat (x i t) w b)).choose_spec⟩
  obtain ⟨hr, hl, hc⟩ := VqRef.ref_all V h0 h1 h2 h3 h4 h5 I hκ
  refine ⟨(VqRef.recos_eq V).trans (funext fun j => ?_), (VqRef.loss_eq V).trans (funext fun j => ?_), (VqRef.codes_eq V).trans (funext fun j => ?_)⟩
  · obtain ⟨i, t, a, rfl⟩ : ∃ i t a, j = ix3 i t a := ⟨_, _, _, eq_ix3 j⟩
    exact (hr i t a).trans (Vq.kernel_recs m d I hκ i t a).symm
  · exact (hl j).trans (Vq.kernel_loss m d I hκ j).symm
  · obtain ⟨i, t, rfl⟩ : ∃ i t, j = ix2 i t := ⟨_, _, eq_ix2 j⟩
    exact (hc i t).trans (Vq.kernel_codes m d I hκ i t).symm

end Cert.VqMeet

end
-- ==== Proof.lean ====
/-
  The proof of `Cert.Claim`.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_finite
public import proofs.«01_k».proof.Proof.Gen.ReferenceIdeal
public import proofs.«01_k».proof.Proof.Frames
public import proofs.«01_k».proof.Proof.Ref
public import proofs.«01_k».proof.Proof.Meet
public import Idealize.ShloMosaic.Adequacy
public import Idealize.ShloMosaic.Init

@[expose] public section

noncomputable section

namespace Cert.Proof

open Idealize.ShloMosaic Idealize.SL.Sem

theorem kernel_frame : Cert.quiescent_KernelIdeal (hKernelIdeal := Cert.KernelIdeal.Gen.facts) :=
  fun m g _ => (θ_run _ _ _).mono (fun _ h => h.2) (Cert.Vq.run_frame m g)

theorem reference_frame : Cert.quiescent_ReferenceIdeal (hReferenceIdeal := Cert.ReferenceIdeal.Gen.facts) :=
  fun m g _ => (θ_run _ _ _).mono (fun _ h => h.2) (Cert.VqRef.run_frame m g)

theorem kernel_frame_finite : Cert.quiescent_KernelIdeal_pre_finite (hKernelIdeal := Cert.KernelIdeal.Gen.facts) (hPre_finite := Cert.Pre_finite.Gen.facts) :=
  fun m g _ => (θ_run _ _ _).mono (fun _ h => h.2) (Cert.Vq.run_frame m g)

theorem reference_frame_finite : Cert.quiescent_ReferenceIdeal_pre_finite (hReferenceIdeal := Cert.ReferenceIdeal.Gen.facts) (hPre_finite := Cert.Pre_finite.Gen.facts) :=
  fun m g _ => (θ_run _ _ _).mono (fun _ h => h.2) (Cert.VqRef.run_frame m g)

/-- Of finite tokens, encoder and codebook the kernel leaves what the reference leaves: reconstruction, loss and codes. -/
theorem same_results : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  refine ⟨fun c => Vq.W16 m c (Proc.devRef .tc KernelIdeal.main_v6), fun c => Vq.W16 m c (Proc.devRef .tc KernelIdeal.main_v13), fun c => Vq.W16 m c (Proc.devRef .tc KernelIdeal.main_v8), ?_, ?_⟩
  · exact (θ_run _ _ _).mono (fun _ h c => ⟨(h.1 c).1, (h.1 c).2.1, (h.1 c).2.2, h.2.1 c⟩) (Cert.Vq.run_frame m g)
  · refine (θ_run _ _ _).mono (fun _ h c => ?_) (Cert.VqRef.run_frame m' g')
    obtain ⟨a0, a1, a2, a3, a4, a5⟩ := hargs c
    obtain ⟨e0, e1, e2⟩ := VqMeet.meet m c (StableHlo.launchContents m' c) a0 a1 a2 a3 a4 a5 (hpre c)
    exact ⟨(h.1 c _).trans e0, (h.1 c _).trans e1, (h.1 c _).trans e2, h.2.1 c⟩

theorem claim : Cert.Claim :=
  ⟨Cert.KernelIdeal.Gen.facts, Cert.ReferenceIdeal.Gen.facts, Cert.Pre_finite.Gen.facts, kernel_frame, kernel_frame_finite, reference_frame, reference_frame_finite, same_results⟩

end Cert.Proof

end
